-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decodable [hPre_decodable : Cert.Pre_decodable.Facts] (m : (ℓ : Loc Cert.KernelIdeal.nD Cert.KernelIdeal.τ Cert.KernelIdeal.sig) → Buf (Elt Ideal) ℓ) : Prop :=
  ∀ c : Dev Cert.KernelIdeal.nD,
    (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decodable [hPre_decodable : Cert.Pre_decodable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decodable [hKernelIdeal : Cert.KernelIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decodable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decodable [hReferenceIdeal : Cert.ReferenceIdeal.Facts] [hPre_decodable : Cert.Pre_decodable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decodable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_decodable [hKernelIdeal : Cert.KernelIdeal.Facts] [hReferenceIdeal : Cert.ReferenceIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decodable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_decodable : Cert.Pre_decodable.Facts),
    quiescent_Kernel (hKernel := hKernel)
    ∧ quiescent_KernelIdeal (hKernelIdeal := hKernelIdeal)
    ∧ quiescent_KernelIdeal_pre_decodable (hKernelIdeal := hKernelIdeal) (hPre_decodable := hPre_decodable)
    ∧ quiescent_ReferenceIdeal (hReferenceIdeal := hReferenceIdeal)
    ∧ quiescent_ReferenceIdeal_pre_decodable (hReferenceIdeal := hReferenceIdeal) (hPre_decodable := hPre_decodable)
    ∧ preserves_Kernel_KernelIdeal
    ∧ algebraic_KernelIdeal_ReferenceIdeal_pre_decodable (hKernelIdeal := hKernelIdeal) (hReferenceIdeal := hReferenceIdeal) (hPre_decodable := hPre_decodable)
-- ==== Pre_decodable.lean ====
abbrev S48x1x14336 : Shape := ⟨3, ![48, 1, 14336]⟩
abbrev S48x1x112 : Shape := ⟨3, ![48, 1, 112]⟩
abbrev S4096x14336 : Shape := ⟨2, ![4096, 14336]⟩
abbrev S32x112 : Shape := ⟨2, ![32, 112]⟩
abbrev S_ : Shape := ⟨0, ![]⟩

class Facts : Prop where
  natLt_8_32 : 8 < 32
  bcast_S_S48x1x112 : S_.BroadcastsInDim S48x1x112 (![] : Fin 0 → Fin S48x1x112.rank)
  reducesTo_S48x1x112_S_d0_1_2 : S48x1x112.ReducesTo [0, 1, 2] S_
  h_S_ : 0 < S_.numel
  bcast_S_S32x112 : S_.BroadcastsInDim S32x112 (![] : Fin 0 → Fin S32x112.rank)
  reducesTo_S32x112_S_d0_1 : S32x112.ReducesTo [0, 1] S_

variable [Facts]

def fn {F : FTy → Type} [FloatOps F] (main_arg0 : FVec F S48x1x14336 .fp8e4m3) (main_arg1 : IVec S48x1x112 8) (main_arg2 : FVec F S4096x14336 .fp8e4m3) (main_arg3 : IVec S32x112 8) : IVec S_ 1 :=
  let main_v0 : IVec S48x1x112 32 := (extui 32 · natLt_8_32) main_arg1
  let main_c : IVec S_ 32 := constantI S_ 32 1#32
  let main_v1 : IVec S48x1x112 32 := broadcastInDim S48x1x112 ![] bcast_S_S48x1x112 main_c
  let main_v2 : IVec S48x1x112 1 := cmpi .sge main_v0 main_v1
  let main_c_0 : IVec S_ 32 := constantI S_ 32 254#32
  let main_v3 : IVec S48x1x112 32 := broadcastInDim S48x1x112 ![] bcast_S_S48x1x112 main_c_0
  let main_v4 : IVec S48x1x112 1 := cmpi .sle main_v0 main_v3
  let main_v5 : IVec S48x1x112 1 := andi main_v2 main_v4
  let main_c_1 : IVec S_ 1 := constantI S_ 1 1#1
  let main_v6 : IVec S_ 1 := (fun x v => Host.reduce IntOp.andi x v reducesTo_S48x1x112_S_d0_1_2 h_S_) main_v5 main_c_1
  let main_v7 : IVec S32x112 32 := (extui 32 · natLt_8_32) main_arg3
  let main_c_2 : IVec S_ 32 := constantI S_ 32 1#32
  let main_v8 : IVec S32x112 32 := broadcastInDim S32x112 ![] bcast_S_S32x112 main_c_2
  let main_v9 : IVec S32x112 1 := cmpi .sge main_v7 main_v8
  let main_c_3 : IVec S_ 32 := constantI S_ 32 254#32
  let main_v10 : IVec S32x112 32 := broadcastInDim S32x112 ![] bcast_S_S32x112 main_c_3
  let main_v11 : IVec S32x112 1 := cmpi .sle main_v7 main_v10
  let main_v12 : IVec S32x112 1 := andi main_v9 main_v11
  let main_c_4 : IVec S_ 1 := constantI S_ 1 1#1
  let main_v13 : IVec S_ 1 := (fun x v => Host.reduce IntOp.andi x v reducesTo_S32x112_S_d0_1 h_S_) main_v12 main_c_4
  let main_v14 : IVec S_ 1 := andi main_v6 main_v13
  main_v14
-- ==== Kernel.lean ====
abbrev S48x1x14336 : Shape := ⟨3, ![48, 1, 14336]⟩
abbrev S48x1x112 : Shape := ⟨3, ![48, 1, 112]⟩
abbrev S4096x14336 : Shape := ⟨2, ![4096, 14336]⟩
abbrev S32x112 : Shape := ⟨2, ![32, 112]⟩
abbrev S48x14336 : Shape := ⟨2, ![48, 14336]⟩
abbrev S48x112 : Shape := ⟨2, ![48, 112]⟩
abbrev S8x4x112 : Shape := ⟨3, ![8, 4, 112]⟩
abbrev S8x112x4 : Shape := ⟨3, ![8, 112, 4]⟩
abbrev S8x112 : Shape := ⟨2, ![8, 112]⟩
abbrev S48x4096 : Shape := ⟨2, ![48, 4096]⟩
abbrev S4096x14464 : Shape := ⟨2, ![4096, 14464]⟩
abbrev S3 : Shape := ⟨1, ![3]⟩
abbrev S28 : Shape := ⟨1, ![28]⟩
abbrev S_ : Shape := ⟨0, ![]⟩
abbrev S1 : Shape := ⟨1, ![1]⟩
abbrev S4096x512 : Shape := ⟨2, ![4096, 512]⟩
abbrev S48x1 : Shape := ⟨2, ![48, 1]⟩
abbrev S48x128 : Shape := ⟨2, ![48, 128]⟩
abbrev S32x512 : Shape := ⟨2, ![32, 512]⟩
abbrev S1x1 : Shape := ⟨2, ![1, 1]⟩
abbrev S8x128 : Shape := ⟨2, ![8, 128]⟩
abbrev S16x128 : Shape := ⟨2, ![16, 128]⟩
abbrev S48x512 : Shape := ⟨2, ![48, 512]⟩
abbrev S128x512 : Shape := ⟨2, ![128, 512]⟩
abbrev S256x512 : Shape := ⟨2, ![256, 512]⟩
abbrev S128x256 : Shape := ⟨2, ![128, 256]⟩

abbrev nBuf : Space → Nat
  | .hbm => 10
  | .vmem => 6
  | .smem => 1
  | _ => 0

abbrev bufTy : (tb : Table) → Fin (tcTables nBuf tb) → BufTy
  | .hbm, ⟨0, _⟩ => ⟨S48x1x14336, .fp8e4m3⟩
  | .hbm, ⟨1, _⟩ => ⟨S48x1x112, .i8⟩
  | .hbm, ⟨2, _⟩ => ⟨S4096x14336, .fp8e4m3⟩
  | .hbm, ⟨3, _⟩ => ⟨S32x112, .i8⟩
  | .hbm, ⟨4, _⟩ => ⟨S48x14336, .fp8e4m3⟩
  | .hbm, ⟨5, _⟩ => ⟨S48x112, .i8⟩
  | .hbm, ⟨6, _⟩ => ⟨S8x4x112, .i8⟩
  | .hbm, ⟨7, _⟩ => ⟨S8x112x4, .i8⟩
  | .hbm, ⟨8, _⟩ => ⟨S8x112, .i32⟩
  | .hbm, ⟨9, _⟩ => ⟨S48x4096, .bf16⟩
  | .local _ .vmem, ⟨0, _⟩ => ⟨S4096x14464, .fp8e4m3⟩
  | .local _ .vmem, ⟨1, _⟩ => ⟨S48x14336, .bf16⟩
  | .local _ .vmem, ⟨2, _⟩ => ⟨S48x14336, .fp8e4m3⟩
  | .local _ .vmem, ⟨3, _⟩ => ⟨S48x4096, .f32⟩
  | .local _ .vmem, ⟨4, _⟩ => ⟨S48x4096, .bf16⟩
  | .local _ .vmem, ⟨5, _⟩ => ⟨S48x112, .i8⟩
  | .local _ .smem, ⟨0, _⟩ => ⟨S8x112, .i32⟩
  | _, _ => ⟨S48x1x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.smem, 0, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_mult9 : BitVec 32 :=
  let c4096_i32 : BitVec 32 := 4096#32
  c4096_i32
def k0_mult10 : BitVec 32 :=
  let c4608_i32 : BitVec 32 := 4608#32
  c4608_i32
def k0_mult11 : BitVec 32 :=
  let c5120_i32 : BitVec 32 := 5120#32
  c5120_i32
def k0_mult12 : BitVec 32 :=
  let c5632_i32 : BitVec 32 := 5632#32
  c5632_i32
def k0_mult13 : BitVec 32 :=
  let c6144_i32 : BitVec 32 := 6144#32
  c6144_i32
def k0_mult14 : BitVec 32 :=
  let c6656_i32 : BitVec 32 := 6656#32
  c6656_i32
def k0_mult15 : BitVec 32 :=
  let c7168_i32 : BitVec 32 := 7168#32
  c7168_i32
def k0_mult16 : BitVec 32 :=
  let c7680_i32 : BitVec 32 := 7680#32
  c7680_i32
def k0_mult17 : BitVec 32 :=
  let c8192_i32 : BitVec 32 := 8192#32
  c8192_i32
def k0_mult18 : BitVec 32 :=
  let c8704_i32 : BitVec 32 := 8704#32
  c8704_i32
def k0_mult19 : BitVec 32 :=
  let c9216_i32 : BitVec 32 := 9216#32
  c9216_i32
def k0_mult20 : BitVec 32 :=
  let c9728_i32 : BitVec 32 := 9728#32
  c9728_i32
def k0_mult21 : BitVec 32 :=
  let c10240_i32 : BitVec 32 := 10240#32
  c10240_i32
def k0_mult22 : BitVec 32 :=
  let c10752_i32 : BitVec 32 := 10752#32
  c10752_i32
def k0_mult23 : BitVec 32 :=
  let c11264_i32 : BitVec 32 := 11264#32
  c11264_i32
def k0_mult24 : BitVec 32 :=
  let c11776_i32 : BitVec 32 := 11776#32
  c11776_i32
def k0_mult25 : BitVec 32 :=
  let c12288_i32 : BitVec 32 := 12288#32
  c12288_i32
def k0_mult26 : BitVec 32 :=
  let c12800_i32 : BitVec 32 := 12800#32
  c12800_i32
def k0_mult27 : BitVec 32 :=
  let c13312_i32 : BitVec 32 := 13312#32
  c13312_i32
def k0_mult28 : BitVec 32 :=
  let c13824_i32 : BitVec 32 := 13824#32
  c13824_i32
@[reducible] def k0_t1_loop : Scf.Loop 32 :=
  let c0_i32_404 : BitVec 32 := 0#32
  let c28_i32 : BitVec 32 := 28#32
  let v1170 : BitVec 32 := Scalar.addi c0_i32_404 c28_i32
  let c1_i32_405 : BitVec 32 := 1#32
  ⟨c0_i32_404, v1170, c1_i32_405⟩
def k0_mult29 (k0_t1 : Fin k0_t1_loop.trips) : BitVec 32 :=
  let c0_i32_404 : BitVec 32 := 0#32
  let c1_i32_405 : BitVec 32 := 1#32
  let arg15 : BitVec 32 := Scf.iv c0_i32_404 c1_i32_405 k0_t1
  let c512_i32_412 : BitVec 32 := 512#32
  let v1176 : BitVec 32 := Scalar.muli arg15 c512_i32_412
  v1176
def k0_off1 (k0_t1 : Fin k0_t1_loop.trips) : Fin 1 → Nat :=
  let c0_i32_404 : BitVec 32 := 0#32
  let c1_i32_405 : BitVec 32 := 1#32
  let arg15 : BitVec 32 := Scf.iv c0_i32_404 c1_i32_405 k0_t1
  ![arg15.toNat]
def k0_off2 (k0_t1 : Fin k0_t1_loop.trips) : Fin 2 → Nat :=
  let c0_i32_413 : BitVec 32 := 0#32
  let c0_i32_404 : BitVec 32 := 0#32
  let c1_i32_405 : BitVec 32 := 1#32
  let arg15 : BitVec 32 := Scf.iv c0_i32_404 c1_i32_405 k0_t1
  let c512_i32_412 : BitVec 32 := 512#32
  let v1176 : BitVec 32 := Scalar.muli arg15 c512_i32_412
  let v1177 : BitVec 32 := v1176
  ![0, v1177.toNat]
def k0_off3 (k0_t1 : Fin k0_t1_loop.trips) : Fin 2 → Nat :=
  let c0_i32_414 : BitVec 32 := 0#32
  let c0_i32_404 : BitVec 32 := 0#32
  let c1_i32_405 : BitVec 32 := 1#32
  let arg15 : BitVec 32 := Scf.iv c0_i32_404 c1_i32_405 k0_t1
  let c512_i32_412 : BitVec 32 := 512#32
  let v1176 : BitVec 32 := Scalar.muli arg15 c512_i32_412
  let v1177 : BitVec 32 := v1176
  ![0, v1177.toNat]
def k0_mult30 (k0_t1 : Fin k0_t1_loop.trips) : BitVec 32 :=
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  v1182
def k0_off4 (k0_t1 : Fin k0_t1_loop.trips) (c0_i32_417 : BitVec 32) : Fin 2 → Nat :=
  let c0_418 : Index := 0#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1185 : BitVec 32 := Scalar.addi v1183 c0_i32_417
  let v1186 : Index := Scalar.indexCast v1185
  ![0, v1186.toNat]
def k0_off5 (k0_t1 : Fin k0_t1_loop.trips) (c0_i32_420 : BitVec 32) : Fin 2 → Nat :=
  let c0_421 : Index := 0#32
  let c0_i32_404 : BitVec 32 := 0#32
  let c1_i32_405 : BitVec 32 := 1#32
  let arg15 : BitVec 32 := Scf.iv c0_i32_404 c1_i32_405 k0_t1
  let c4_i32_419 : BitVec 32 := 4#32
  let v1188 : BitVec 32 := Scalar.muli arg15 c4_i32_419
  let v1189 : BitVec 32 := Scalar.addi v1188 c0_i32_420
  let v1190 : Index := Scalar.indexCast v1189
  ![0, v1190.toNat]
def k0_off6 (k0_t1 : Fin k0_t1_loop.trips) : Fin 2 → Nat :=
  let c0_485 : Index := 0#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1316 : Index := Scalar.indexCast v1183
  ![0, v1316.toNat]
def k0_off7 (k0_t1 : Fin k0_t1_loop.trips) : Fin 2 → Nat :=
  let c256_567 : Index := 256#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1462 : Index := Scalar.indexCast v1183
  ![256, v1462.toNat]
def k0_off8 (k0_t1 : Fin k0_t1_loop.trips) (c0_i32_580 : BitVec 32) : Fin 2 → Nat :=
  let c1 : Index := 1#32
  let c0_i32_404 : BitVec 32 := 0#32
  let c1_i32_405 : BitVec 32 := 1#32
  let arg15 : BitVec 32 := Scf.iv c0_i32_404 c1_i32_405 k0_t1
  let c4_i32_579 : BitVec 32 := 4#32
  let v1480 : BitVec 32 := Scalar.muli arg15 c4_i32_579
  let v1481 : BitVec 32 := Scalar.addi v1480 c0_i32_580
  let v1482 : Index := Scalar.indexCast v1481
  ![1, v1482.toNat]
def k0_off9 (k0_t1 : Fin k0_t1_loop.trips) : Fin 2 → Nat :=
  let c512_648 : Index := 512#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1608 : Index := Scalar.indexCast v1183
  ![512, v1608.toNat]
def k0_off10 (k0_t1 : Fin k0_t1_loop.trips) : Fin 2 → Nat :=
  let c768_730 : Index := 768#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1754 : Index := Scalar.indexCast v1183
  ![768, v1754.toNat]
def k0_off11 (k0_t1 : Fin k0_t1_loop.trips) (c0_i32_743 : BitVec 32) : Fin 2 → Nat :=
  let c2 : Index := 2#32
  let c0_i32_404 : BitVec 32 := 0#32
  let c1_i32_405 : BitVec 32 := 1#32
  let arg15 : BitVec 32 := Scf.iv c0_i32_404 c1_i32_405 k0_t1
  let c4_i32_742 : BitVec 32 := 4#32
  let v1772 : BitVec 32 := Scalar.muli arg15 c4_i32_742
  let v1773 : BitVec 32 := Scalar.addi v1772 c0_i32_743
  let v1774 : Index := Scalar.indexCast v1773
  ![2, v1774.toNat]
def k0_off12 (k0_t1 : Fin k0_t1_loop.trips) : Fin 2 → Nat :=
  let c1024_811 : Index := 1024#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v1900 : Index := Scalar.indexCast v1183
  ![1024, v1900.toNat]
def k0_off13 (k0_t1 : Fin k0_t1_loop.trips) : Fin 2 → Nat :=
  let c1280_893 : Index := 1280#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2046 : Index := Scalar.indexCast v1183
  ![1280, v2046.toNat]
def k0_off14 (k0_t1 : Fin k0_t1_loop.trips) (c0_i32_906 : BitVec 32) : Fin 2 → Nat :=
  let c3 : Index := 3#32
  let c0_i32_404 : BitVec 32 := 0#32
  let c1_i32_405 : BitVec 32 := 1#32
  let arg15 : BitVec 32 := Scf.iv c0_i32_404 c1_i32_405 k0_t1
  let c4_i32_905 : BitVec 32 := 4#32
  let v2064 : BitVec 32 := Scalar.muli arg15 c4_i32_905
  let v2065 : BitVec 32 := Scalar.addi v2064 c0_i32_906
  let v2066 : Index := Scalar.indexCast v2065
  ![3, v2066.toNat]
def k0_off15 (k0_t1 : Fin k0_t1_loop.trips) : Fin 2 → Nat :=
  let c1536_974 : Index := 1536#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2192 : Index := Scalar.indexCast v1183
  ![1536, v2192.toNat]
def k0_off16 (k0_t1 : Fin k0_t1_loop.trips) : Fin 2 → Nat :=
  let c1792_1056 : Index := 1792#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2338 : Index := Scalar.indexCast v1183
  ![1792, v2338.toNat]
def k0_off17 (k0_t1 : Fin k0_t1_loop.trips) (c0_i32_1069 : BitVec 32) : Fin 2 → Nat :=
  let c4 : Index := 4#32
  let c0_i32_404 : BitVec 32 := 0#32
  let c1_i32_405 : BitVec 32 := 1#32
  let arg15 : BitVec 32 := Scf.iv c0_i32_404 c1_i32_405 k0_t1
  let c4_i32_1068 : BitVec 32 := 4#32
  let v2356 : BitVec 32 := Scalar.muli arg15 c4_i32_1068
  let v2357 : BitVec 32 := Scalar.addi v2356 c0_i32_1069
  let v2358 : Index := Scalar.indexCast v2357
  ![4, v2358.toNat]
def k0_off18 (k0_t1 : Fin k0_t1_loop.trips) : Fin 2 → Nat :=
  let c2048_1137 : Index := 2048#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2484 : Index := Scalar.indexCast v1183
  ![2048, v2484.toNat]
def k0_off19 (k0_t1 : Fin k0_t1_loop.trips) : Fin 2 → Nat :=
  let c2304_1219 : Index := 2304#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2630 : Index := Scalar.indexCast v1183
  ![2304, v2630.toNat]
def k0_off20 (k0_t1 : Fin k0_t1_loop.trips) (c0_i32_1232 : BitVec 32) : Fin 2 → Nat :=
  let c5 : Index := 5#32
  let c0_i32_404 : BitVec 32 := 0#32
  let c1_i32_405 : BitVec 32 := 1#32
  let arg15 : BitVec 32 := Scf.iv c0_i32_404 c1_i32_405 k0_t1
  let c4_i32_1231 : BitVec 32 := 4#32
  let v2648 : BitVec 32 := Scalar.muli arg15 c4_i32_1231
  let v2649 : BitVec 32 := Scalar.addi v2648 c0_i32_1232
  let v2650 : Index := Scalar.indexCast v2649
  ![5, v2650.toNat]
def k0_off21 (k0_t1 : Fin k0_t1_loop.trips) : Fin 2 → Nat :=
  let c2560_1300 : Index := 2560#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2776 : Index := Scalar.indexCast v1183
  ![2560, v2776.toNat]
def k0_off22 (k0_t1 : Fin k0_t1_loop.trips) : Fin 2 → Nat :=
  let c2816_1382 : Index := 2816#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v2922 : Index := Scalar.indexCast v1183
  ![2816, v2922.toNat]
def k0_off23 (k0_t1 : Fin k0_t1_loop.trips) (c0_i32_1395 : BitVec 32) : Fin 2 → Nat :=
  let c6 : Index := 6#32
  let c0_i32_404 : BitVec 32 := 0#32
  let c1_i32_405 : BitVec 32 := 1#32
  let arg15 : BitVec 32 := Scf.iv c0_i32_404 c1_i32_405 k0_t1
  let c4_i32_1394 : BitVec 32 := 4#32
  let v2940 : BitVec 32 := Scalar.muli arg15 c4_i32_1394
  let v2941 : BitVec 32 := Scalar.addi v2940 c0_i32_1395
  let v2942 : Index := Scalar.indexCast v2941
  ![6, v2942.toNat]
def k0_off24 (k0_t1 : Fin k0_t1_loop.trips) : Fin 2 → Nat :=
  let c3072_1463 : Index := 3072#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v3068 : Index := Scalar.indexCast v1183
  ![3072, v3068.toNat]
def k0_off25 (k0_t1 : Fin k0_t1_loop.trips) : Fin 2 → Nat :=
  let c3328_1545 : Index := 3328#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v3214 : Index := Scalar.indexCast v1183
  ![3328, v3214.toNat]
def k0_off26 (k0_t1 : Fin k0_t1_loop.trips) (c0_i32_1558 : BitVec 32) : Fin 2 → Nat :=
  let c7 : Index := 7#32
  let c0_i32_404 : BitVec 32 := 0#32
  let c1_i32_405 : BitVec 32 := 1#32
  let arg15 : BitVec 32 := Scf.iv c0_i32_404 c1_i32_405 k0_t1
  let c4_i32_1557 : BitVec 32 := 4#32
  let v3232 : BitVec 32 := Scalar.muli arg15 c4_i32_1557
  let v3233 : BitVec 32 := Scalar.addi v3232 c0_i32_1558
  let v3234 : Index := Scalar.indexCast v3233
  ![7, v3234.toNat]
def k0_off27 (k0_t1 : Fin k0_t1_loop.trips) : Fin 2 → Nat :=
  let c3584_1626 : Index := 3584#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v3360 : Index := Scalar.indexCast v1183
  ![3584, v3360.toNat]
def k0_off28 (k0_t1 : Fin k0_t1_loop.trips) : Fin 2 → Nat :=
  let c3840_1708 : Index := 3840#32
  let c0_i32_404 : BitVec 32 := 0#32
  let c1_i32_405 : BitVec 32 := 1#32
  let arg15 : BitVec 32 := Scf.iv c0_i32_404 c1_i32_405 k0_t1
  let c512_i32_415 : BitVec 32 := 512#32
  let v1182 : BitVec 32 := Scalar.muli arg15 c512_i32_415
  let v1183 : BitVec 32 := v1182
  let v3506 : Index := Scalar.indexCast v1183
  ![3840, v3506.toNat]
-- ==== ReferenceIdeal.lean ====
abbrev S48x1x14336 : Shape := ⟨3, ![48, 1, 14336]⟩
abbrev S48x1x112 : Shape := ⟨3, ![48, 1, 112]⟩
abbrev S4096x14336 : Shape := ⟨2, ![4096, 14336]⟩
abbrev S32x112 : Shape := ⟨2, ![32, 112]⟩
abbrev S48x14336 : Shape := ⟨2, ![48, 14336]⟩
abbrev S48x112 : Shape := ⟨2, ![48, 112]⟩
abbrev S48x4096 : Shape := ⟨2, ![48, 4096]⟩
abbrev S48x112x128 : Shape := ⟨3, ![48, 112, 128]⟩
abbrev S48x112x1 : Shape := ⟨3, ![48, 112, 1]⟩
abbrev S32x128x112x128 : Shape := ⟨4, ![32, 128, 112, 128]⟩
abbrev S32x1x112x1 : Shape := ⟨4, ![32, 1, 112, 1]⟩

abbrev nBuf : Space → Nat
  | .hbm => 7
  | .vmem => 5
  | .smem => 0
  | _ => 0

abbrev bufTy : (tb : Table) → Fin (tcTables nBuf tb) → BufTy
  | .hbm, ⟨0, _⟩ => ⟨S48x1x14336, .fp8e4m3⟩
  | .hbm, ⟨1, _⟩ => ⟨S48x1x112, .i8⟩
  | .hbm, ⟨2, _⟩ => ⟨S4096x14336, .fp8e4m3⟩
  | .hbm, ⟨3, _⟩ => ⟨S32x112, .i8⟩
  | .hbm, ⟨4, _⟩ => ⟨S48x14336, .fp8e4m3⟩
  | .hbm, ⟨5, _⟩ => ⟨S48x112, .i8⟩
  | .hbm, ⟨6, _⟩ => ⟨S48x4096, .bf16⟩
  | .local _ .vmem, ⟨0, _⟩ => ⟨S48x14336, .fp8e4m3⟩
  | .local _ .vmem, ⟨1, _⟩ => ⟨S48x112, .i8⟩
  | .local _ .vmem, ⟨2, _⟩ => ⟨S4096x14336, .fp8e4m3⟩
  | .local _ .vmem, ⟨3, _⟩ => ⟨S32x112, .i8⟩
  | .local _ .vmem, ⟨4, _⟩ => ⟨S48x4096, .bf16⟩
  | _, _ => ⟨S48x1x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S48x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x112 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x112 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Refold.lean ====
module

public import proofs.«01_k».proof.Proof.Gen.Kernel.Skeleton
public import Idealize.ShloMosaic.Lib.Tactic

@[expose] public section

set_option synthInstance.maxSize 4096

noncomputable section

namespace Cert.Kernel.Hand

open Idealize.ShloMosaic Idealize.SL.Sem Cert.Kernel.Gen

variable {F : FTy → Type} [FloatOps F]

/-- Programs of the kernel that return nothing. -/
abbrev PK (F : FTy → Type) := Prog (TpuEff nD τ sig (Elt F) Λ₀ .tc)

/-- Run `f 0`, `f 1`, …, `f (n - 1)` in this order. -/
def seqFin : (n : Nat) → (Fin n → PK F PUnit) → PK F PUnit
  | 0, _ => pure ⟨⟩
  | n + 1, f => f 0 >>= fun _ => seqFin n (fun i => f i.succ)

/-! ## Side conditions of the accesses, uniformly in the index -/

/-- Panel `p` of the weights lies in the scratch buffer. -/
theorem inbW5 : ∀ p : Fin 28, ∀ a, (![0, 512 * p.val] : Fin 2 → Nat) a + S4096x512.size a ≤ S4096x14464.size a := by decide +kernel
/-- Panel `p` of the weights lies in the argument. -/
theorem inbW2 : ∀ p : Fin 28, ∀ a, (![0, 512 * p.val] : Fin 2 → Nat) a + S4096x512.size a ≤ S4096x14336.size a := by decide +kernel
/-- Semaphore `p` is one of the 28. -/
theorem inbSem : ∀ p : Fin 28, ∀ a, (![p.val] : Fin 1 → Nat) a + S1.size a ≤ S28.size a := by decide +kernel
/-- Tile `g` of the activations lies in its buffer. -/
theorem inbX : ∀ g : Fin 112, ∀ a, (![0, 128 * g.val] : Fin 2 → Nat) a + S48x128.size a ≤ S48x14336.size a := by decide +kernel
/-- Block `n` of the outputs lies in the accumulator. -/
theorem inbA : ∀ n : Fin 32, ∀ a, (![0, 128 * n.val] : Fin 2 → Nat) a + S48x128.size a ≤ S48x4096.size a := by decide +kernel
/-- Column `g` of the activation scales is a slice of them. -/
theorem slCol : ∀ g : Fin 112, S48x112.Slices (![0, g.val] : Fin 2 → Nat) S48x1 := by decide +kernel
/-- Panel `p` of the scratch buffer is made of whole words. -/
theorem wordsW5 : ∀ p : Fin 28, (Rect.unit (s := S4096x14464) ![0, 512 * p.val] S4096x512.size (inbW5 p)).WholeWords (EltTy.packing .fp8e4m3) := by decide +kernel
/-- Panel `p` of the argument is made of whole words. -/
theorem wordsW2 : ∀ p : Fin 28, (Rect.unit (s := S4096x14336) ![0, 512 * p.val] S4096x512.size (inbW2 p)).WholeWords (EltTy.packing .fp8e4m3) := by decide +kernel
/-- Tile `g` of the scaled activations is made of whole packed rows. -/
theorem packedX : ∀ g : Fin 112, (Rect.unit (s := S48x14336) ![0, 128 * g.val] S48x128.size (inbX g)).PackedRows (EltTy.packing .bf16) := by decide +kernel

/-- Where strip `j` of panel `k` of the weights is read. -/
def wOff (k : Fin k0_t1_loop.trips) (j : Nat) : Fin 2 → Nat :=
  ![256 * j, (Scalar.indexCast (Scalar.muli (Scf.iv 0#32 1#32 k) 512#32)).toNat]
/-- Where the scale word of tile `i` of panel `k`, row `r`, is read. -/
def wsOff (k : Fin k0_t1_loop.trips) (r i : Nat) : Fin 2 → Nat :=
  ![r, (Scalar.indexCast (Scalar.addi (Scalar.muli (Scf.iv 0#32 1#32 k) 4#32) (BitVec.ofNat 32 i))).toNat]
/-- Where tile `i` of panel `k` of the scaled activations is read. -/
def xwOff (k : Fin k0_t1_loop.trips) (i : Nat) : Fin 2 → Nat := k0_off4 k (BitVec.ofNat 32 (128 * i))
/-- Strip `j` of panel `k` of the weights lies in the scratch buffer. -/
theorem inbW : ∀ k : Fin k0_t1_loop.trips, ∀ j : Fin 16, ∀ a, (wOff k j.val) a + S256x512.size a ≤ S4096x14464.size a := by decide +kernel
/-- The scale word of tile `i` of panel `k`, row `r`, lies in the array of words. -/
theorem inbWs : ∀ k : Fin k0_t1_loop.trips, ∀ r : Fin 8, ∀ i : Fin 4, ∀ a, (wsOff k r.val i.val) a + S1x1.size a ≤ S8x112.size a := by decide +kernel
/-- Tile `i` of panel `k` of the scaled activations lies in its buffer. -/
theorem inbXk : ∀ k : Fin k0_t1_loop.trips, ∀ i : Fin 4, ∀ a, (xwOff k i.val) a + S48x128.size a ≤ S48x14336.size a := by decide +kernel
/-- The scale words of strip `j` lie in one of 8 rows. -/
theorem row_lt (j : Fin 16) : j.val / 2 < 8 := by omega
/-- The first output block of strip `j` is one of 32. -/
theorem colA_lt (j : Fin 16) : 2 * j.val < 32 := by omega
/-- The second output block of strip `j` is one of 32. -/
theorem colB_lt (j : Fin 16) : 2 * j.val + 1 < 32 := by omega

/-! ## The values the kernel computes -/

/-- The activation scales as bf16 vectors, decoded from their codes. -/
def scaleX (v : Vec F S48x112 .i8) : FVec F S48x112 .bf16 :=
  truncf .bf16 (bitcastToFloat (F := F) .f32 (shli (extui 32 v natLt_8_32) (broadcast S48x112 23#32))) bitsLt_bf16_f32

/-- The scaled activation tile of column group `g`. -/
def tileX (xs : FVec F S48x112 .bf16) (g : Fin 112) (x : Vec F S48x128 .fp8e4m3) : FVec F S48x128 .bf16 :=
  shapeCast S48x128 (mulf (extf .bf16 x bitsLt_fp8e4m3_bf16)
    (broadcastTo S48x128 (shapeCast S48x1 (extractStridedSlice S48x1 ![0, g.val] xs (slCol g)) shapeCasts_S48x1_S48x1)
      broadcasts_S48x1_S48x128)) shapeCasts_S48x128_S48x128

/-- A weight scale's code, taken from byte `sh / 8` of its word, as a tile of equal bf16 values. -/
def scaleW (sh : BitVec 32) (s : Elt F .i32) : FVec F S48x128 .bf16 :=
  have b : FVec F S16x128 .bf16 := bitcastToFloat .bf16 (bitcast S16x128 16
    (broadcast S8x128 (Scalar.ori (Scalar.shli (Scalar.andi (Scalar.shrui s sh) 255#32) 23#32)
      (Scalar.shli (Scalar.andi (Scalar.shrui s sh) 255#32) 7#32)) : IVec S8x128 32) bitcasts_S8x128_w32_S16x128_w16)
  concatenate S48x128 0 [⟨S16x128, b⟩, ⟨S16x128, b⟩, ⟨S16x128, b⟩] concatenates_S16x128_S16x128_S16x128_S48x128_d0

/-- Four tiles, each scaled by its weight scale, side by side. -/
def band (sh : BitVec 32) (x0 x1 x2 x3 : Vec F S48x128 .bf16) (s0 s1 s2 s3 : Elt F .i32) : FVec F S48x512 .bf16 :=
  concatenate S48x512 1 [⟨S48x128, mulf x0 (scaleW sh s0)⟩, ⟨S48x128, mulf x1 (scaleW sh s1)⟩,
    ⟨S48x128, mulf x2 (scaleW sh s2)⟩, ⟨S48x128, mulf x3 (scaleW sh s3)⟩] concatenates_S48x128_S48x128_S48x128_S48x128_S48x512_d1

/-- The product of two bands, over 32 rows of zeros, with a strip of 256 weight rows. -/
def strip2 (b0 b1 : FVec F S48x512 .bf16) (w : Vec F S256x512 .fp8e4m3) : FVec F S128x256 .f32 :=
  matmul dot_S128x512_S256x512_S128x256_1_1_0_0_n_n none
    (concatenate S128x512 0 [⟨S48x512, b0⟩, ⟨S48x512, b1⟩,
      ⟨S32x512, (broadcast S32x512 (Scalar.ofBits .bf16 0x0000#16 : F .bf16) : FVec F S32x512 .bf16)⟩] concatenates_S48x512_S48x512_S32x512_S128x512_d0)
    w (constant S128x256 .f32 0x00000000#32)

/-- The accumulator's tile with the first band's product added. -/
def addA (a : Vec F S48x128 .f32) (d : FVec F S128x256 .f32) : FVec F S48x128 .f32 :=
  shapeCast S48x128 (addf a (extractStridedSlice S48x128 ![0, 0] d slices_S128x256_o0_0_S48x128)) shapeCasts_S48x128_S48x128

/-- The accumulator's tile with the second band's product added. -/
def addB (a : Vec F S48x128 .f32) (d : FVec F S128x256 .f32) : FVec F S48x128 .f32 :=
  shapeCast S48x128 (addf a (extractStridedSlice S48x128 ![48, 128] d slices_S128x256_o48_128_S48x128)) shapeCasts_S48x128_S48x128

/-! ## The steps -/

section Steps
variable (arg2 : Memref sig .tc .hbm S4096x14336 .fp8e4m3) (harg2 : arg2.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg11 : Memref sig .tc .smem S8x112 .i32) (harg11 : arg11.IsWhole)
  (arg13 : DmaSems sig S28)

/-- Start the copy of weight panel `p`. -/
def startW (p : Fin 28) : PK F PUnit :=
  Prog.lift (.enqueueDma (arg2.slice (Rect.unit (s := S4096x14336) ![0, 512 * p.val] S4096x512.size (inbW2 p)) (fun _ => rfl))
    (.here (arg5.slice (Rect.unit (s := S4096x14464) ![0, 512 * p.val] S4096x512.size (inbW5 p)) (fun _ => rfl)))
    (.dma ((arg13.slice (Rect.unit (s := S28) ![p.val] S1.size (inbSem p))).squeeze S_ squeezes_S1_S_).sem)
    (harg2.wordExact_slice rfl _ (wordsW2 p)) (harg5.wordExact_slice rfl _ (wordsW5 p)) ⟨Or.inl rfl, trivial⟩)

/-- Scale the activation tile of column group `g`. -/
def stepX (xs : FVec F S48x112 .bf16) (g : Fin 112) : PK F PUnit := do
  let x : Vec F S48x128 .fp8e4m3 ← Prog.lift (.load arg7 (Rect.unit (s := S48x14336) ![0, 128 * g.val] S48x128.size (inbX g)).toLoadRect (View.loadsAt_vmem h_S48x128))
  let _ : Vec F S48x128 .bf16 ← Prog.lift (.load arg6 (Rect.unit (s := S48x14336) ![0, 128 * g.val] S48x128.size (inbX g)).toLoadRect (View.loadsAt_vmem h_S48x128))
  Prog.lift (.store arg6 (Rect.unit (s := S48x14336) ![0, 128 * g.val] S48x128.size (inbX g)) (tileX xs g x) Finset.univ
    (View.stores_vmem h_S48x128 (harg6.storeExact_slice rfl _ (packedX g)) (fun _ => rfl)) (.inl rfl))

/-- Wait for weight panel `k`. -/
def waitW (k : Fin k0_t1_loop.trips) : PK F PUnit :=
  Prog.lift (.waitDma2 ((arg13.slice (Rect.unit (s := S28) (k0_off1 k) S1.size (k0_off1_inb k))).squeeze S_ squeezes_S1_S_).sem
    (arg2.slice (Rect.unit (s := S4096x14336) (k0_off3 k) S4096x512.size (k0_off3_inb k)) (fun _ => rfl))
    (arg5.slice (Rect.unit (s := S4096x14464) (k0_off2 k) S4096x512.size (k0_off2_inb k)) (fun _ => rfl))
    (harg2.wordExact_slice rfl _ (k0_off3_wordsfp8e4m3 k)) (harg5.wordExact_slice rfl _ (k0_off2_wordsfp8e4m3 k)))

/-- Load tile `i` of panel `k` of the scaled activations. -/
def loadX (k : Fin k0_t1_loop.trips) (i : Fin 4) : Prog (TpuEff nD τ sig (Elt F) Λ₀ .tc) (Vec F S48x128 .bf16) :=
  Prog.lift (.load arg6 (Rect.unit (s := S48x14336) (xwOff k i.val) S48x128.size (inbXk k i)).toLoadRect (View.loadsAt_vmem h_S48x128))

/-- Load the scale word of tile `i` of panel `k`, row `r`. -/
def loadS (k : Fin k0_t1_loop.trips) (r : Fin 8) (i : Fin 4) : Prog (TpuEff nD τ sig (Elt F) Λ₀ .tc) (Elt F .i32) :=
  smemLoad arg11 (Rect.unit (s := S8x112) (wsOff k r.val i.val) S1x1.size (inbWs k r i)) numel1_S1x1 rfl

/-- Add the product of panel `k` with strip `j` of the weights. -/
def strip (k : Fin k0_t1_loop.trips) (j : Fin 16) : PK F PUnit := do
  let x0 ← loadX arg6 k 0
  let s0 ← loadS arg11 k ⟨j.val / 2, row_lt j⟩ 0
  let x1 ← loadX arg6 k 1
  let s1 ← loadS arg11 k ⟨j.val / 2, row_lt j⟩ 1
  let x2 ← loadX arg6 k 2
  let s2 ← loadS arg11 k ⟨j.val / 2, row_lt j⟩ 2
  let x3 ← loadX arg6 k 3
  let s3 ← loadS arg11 k ⟨j.val / 2, row_lt j⟩ 3
  let y0 ← loadX arg6 k 0
  let t0 ← loadS arg11 k ⟨j.val / 2, row_lt j⟩ 0
  let y1 ← loadX arg6 k 1
  let t1 ← loadS arg11 k ⟨j.val / 2, row_lt j⟩ 1
  let y2 ← loadX arg6 k 2
  let t2 ← loadS arg11 k ⟨j.val / 2, row_lt j⟩ 2
  let y3 ← loadX arg6 k 3
  let t3 ← loadS arg11 k ⟨j.val / 2, row_lt j⟩ 3
  let w : Vec F S256x512 .fp8e4m3 ← Prog.lift (.load arg5 (Rect.unit (s := S4096x14464) (wOff k j.val) S256x512.size (inbW k j)).toLoadRect (View.loadsAt_vmem h_S256x512))
  let a : Vec F S48x128 .f32 ← Prog.lift (.load arg8 (Rect.unit (s := S48x4096) ![0, 128 * (2 * j.val)] S48x128.size (inbA ⟨_, colA_lt j⟩)).toLoadRect (View.loadsAt_vmem h_S48x128))
  let _ : Vec F S48x128 .f32 ← Prog.lift (.load arg8 (Rect.unit (s := S48x4096) ![0, 128 * (2 * j.val)] S48x128.size (inbA ⟨_, colA_lt j⟩)).toLoadRect (View.loadsAt_vmem h_S48x128))
  Prog.lift (.store arg8 (Rect.unit (s := S48x4096) ![0, 128 * (2 * j.val)] S48x128.size (inbA ⟨_, colA_lt j⟩))
    (addA a (strip2 (band (BitVec.ofNat 32 (16 * (j.val % 2))) x0 x1 x2 x3 s0 s1 s2 s3)
      (band (BitVec.ofNat 32 (16 * (j.val % 2) + 8)) y0 y1 y2 y3 t0 t1 t2 t3) w)) Finset.univ (View.stores_vmem_bits_univ h_S48x128 rfl) (.inl rfl))
  let b : Vec F S48x128 .f32 ← Prog.lift (.load arg8 (Rect.unit (s := S48x4096) ![0, 128 * (2 * j.val + 1)] S48x128.size (inbA ⟨_, colB_lt j⟩)).toLoadRect (View.loadsAt_vmem h_S48x128))
  let _ : Vec F S48x128 .f32 ← Prog.lift (.load arg8 (Rect.unit (s := S48x4096) ![0, 128 * (2 * j.val + 1)] S48x128.size (inbA ⟨_, colB_lt j⟩)).toLoadRect (View.loadsAt_vmem h_S48x128))
  Prog.lift (.store arg8 (Rect.unit (s := S48x4096) ![0, 128 * (2 * j.val + 1)] S48x128.size (inbA ⟨_, colB_lt j⟩))
    (addB b (strip2 (band (BitVec.ofNat 32 (16 * (j.val % 2))) x0 x1 x2 x3 s0 s1 s2 s3)
      (band (BitVec.ofNat 32 (16 * (j.val % 2) + 8)) y0 y1 y2 y3 t0 t1 t2 t3) w)) Finset.univ (View.stores_vmem_bits_univ h_S48x128 rfl) (.inl rfl))

end Steps

/-- One trip of the kernel's loop is: wait for the panel, then the sixteen strips. -/
theorem trip_eq (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) :
    k0_t1_body (F := F) arg0 harg0 arg1 harg1 arg2 harg2 arg3 harg3 arg4 harg4 arg5 harg5 arg6 harg6 arg7 harg7 arg8 harg8 arg9 harg9 arg10 harg10 arg11 harg11 arg12 arg13 arg14 = fun k _ => (waitW arg2 harg2 arg5 harg5 arg13 k >>= fun _ => seqFin 16 (strip arg5 arg6 arg8 arg11 k)) := by
  funext k u
  sl_kernel_rfl

/-- The kernel's body, as loops over its steps. -/
def body (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) : PK F PUnit := do
  Prog.lift (.enqueueDma arg1 (.here arg10) (.dma ((arg12.slice (Rect.unit (s := S3) ![0] S1.size inb_S3_S1_0)).squeeze S_ squeezes_S1_S_).sem) harg1.wordExact harg10.wordExact ⟨Or.inl rfl, trivial⟩)
  Prog.lift (.enqueueDma arg3 (.here arg11) (.dma ((arg12.slice (Rect.unit (s := S3) ![1] S1.size inb_S3_S1_1)).squeeze S_ squeezes_S1_S_).sem) harg3.wordExact harg11.wordExact ⟨Or.inl rfl, trivial⟩)
  Prog.lift (.enqueueDma arg0 (.here arg7) (.dma ((arg12.slice (Rect.unit (s := S3) ![2] S1.size inb_S3_S1_2)).squeeze S_ squeezes_S1_S_).sem) harg0.wordExact harg7.wordExact ⟨Or.inl rfl, trivial⟩)
  seqFin 28 (startW arg2 harg2 arg5 harg5 arg13)
  let _ : Vec F S48x4096 .f32 ← Prog.lift (.load arg8 (Rect.unit (s := S48x4096) ![0, 0] S48x4096.size inb_S48x4096_S48x4096_0_0).toLoadRect (View.loadsAt_vmem h_S48x4096))
  Prog.lift (.store arg8 (Rect.unit (s := S48x4096) ![0, 0] S48x4096.size inb_S48x4096_S48x4096_0_0) (k0_pay154 (F := F)) Finset.univ (View.stores_vmem_bits_univ h_S48x4096 rfl) (.inl rfl))
  Prog.lift (.waitDma2 ((arg12.slice (Rect.unit (s := S3) ![0] S1.size inb_S3_S1_0)).squeeze S_ squeezes_S1_S_).sem arg1 arg10 harg1.wordExact harg10.wordExact)
  Prog.lift (.waitDma2 ((arg12.slice (Rect.unit (s := S3) ![1] S1.size inb_S3_S1_1)).squeeze S_ squeezes_S1_S_).sem arg3 arg11 harg3.wordExact harg11.wordExact)
  Prog.lift (.waitDma2 ((arg12.slice (Rect.unit (s := S3) ![2] S1.size inb_S3_S1_2)).squeeze S_ squeezes_S1_S_).sem arg0 arg7 harg0.wordExact harg7.wordExact)
  let xs : Vec F S48x112 .i8 ← Prog.lift (.load arg10 (Rect.unit (s := S48x112) ![0, 0] S48x112.size inb_S48x112_S48x112_0_0).toLoadRect (View.loadsAt_vmem h_S48x112))
  seqFin 112 (stepX arg6 harg6 arg7 (scaleX xs))
  Scf.Loop.for k0_t1_loop k0_t1_ok ⟨⟩ (fun k _ => (waitW arg2 harg2 arg5 harg5 arg13 k >>= fun _ => seqFin 16 (strip arg5 arg6 arg8 arg11 k)))
  let acc : Vec F S48x4096 .f32 ← Prog.lift (.load arg8 (Rect.unit (s := S48x4096) ![0, 0] S48x4096.size inb_S48x4096_S48x4096_0_0).toLoadRect (View.loadsAt_vmem h_S48x4096))
  let _ : Vec F S48x4096 .bf16 ← Prog.lift (.load arg9 (Rect.unit (s := S48x4096) ![0, 0] S48x4096.size inb_S48x4096_S48x4096_0_0).toLoadRect (View.loadsAt_vmem h_S48x4096))
  Prog.lift (.store arg9 (Rect.unit (s := S48x4096) ![0, 0] S48x4096.size inb_S48x4096_S48x4096_0_0) (k0_pay4 acc) Finset.univ (View.stores_vmem h_S48x4096 (harg9.storeExact_slice rfl _ packedbf16_S48x4096_S48x4096_0_0) (fun _ => rfl)) (.inl rfl))
  Prog.lift (.enqueueDma arg9 (.here arg4) (.dma arg14.sem) harg9.wordExact harg4.wordExact ⟨Or.inl rfl, trivial⟩)
  Prog.lift (.waitDma2 arg14.sem arg9 arg4 harg9.wordExact harg4.wordExact)

/-- The printed body is the body folded. -/
theorem body_eq (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) :
    cc0__body (F := F) arg0 harg0 arg1 harg1 arg2 harg2 arg3 harg3 arg4 harg4 arg5 harg5 arg6 harg6 arg7 harg7 arg8 harg8 arg9 harg9 arg10 harg10 arg11 harg11 arg12 arg13 arg14 = body arg0 harg0 arg1 harg1 arg2 harg2 arg3 harg3 arg4 harg4 arg5 harg5 arg6 harg6 arg7 harg7 arg8 harg8 arg9 harg9 arg10 harg10 arg11 harg11 arg12 arg13 arg14 := by
  rw [cc0__body_eq_skeleton]
  unfold cc0__body_skel
  rw [trip_eq]
  sl_kernel_rfl

end Cert.Kernel.Hand

end
-- ==== Proof.Base.lean ====
module

public import Idealize.ShloMosaic.Lib.Pipeline.FrameBody
public import Idealize.ShloMosaic.Lib.Transfers
public import Idealize.ShloMosaic.Lib.Ring
public import Idealize.ShloMosaic.Lib.Tactic

@[expose] public section

noncomputable section

namespace Cert.Base

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Iterated updates -/

/-- The first `i` of the updates `f 0`, `f 1`, …, one after the other. -/
def upTo {β : Type} {n : Nat} (f : Fin n → β → β) (b : β) : Nat → β
  | 0 => b
  | i + 1 => if h : i < n then f ⟨i, h⟩ (upTo f b i) else upTo f b i

/-- No updates leave the value as it was. -/
theorem upTo_zero {β : Type} {n : Nat} (f : Fin n → β → β) (b : β) : upTo f b 0 = b := rfl
/-- Updates numbered through an equation of the counts are the same updates. -/
theorem upTo_cast {β : Type} {n n' : Nat} (h : n = n') (f : Fin n' → β → β) (b : β) (i : Nat) :
    upTo (fun k : Fin n => f (k.cast h)) b i = upTo f b i := by subst h; rfl
/-- One update more is that update after the ones before it. -/
theorem upTo_succ {β : Type} {n : Nat} (f : Fin n → β → β) (b : β) (i : Fin n) : upTo f b (i.val + 1) = f i (upTo f b i.val) := by
  simp [upTo, i.isLt]
attribute [irreducible] upTo

/-! ## One member of a family changes -/

section Family
variable {M : Type} [URA M]

/-- In a family whose members below `k` are of one kind and the others of another, member `k` changes kind. -/
theorem family_step {n : Nat} (A B : Fin n → sProp M) (k : Fin n) :
    bigSep Finset.univ (fun p : Fin n => if p.val < k.val then A p else B p)
      ⊢ iprop(B k ∗ (A k -∗ bigSep Finset.univ (fun p : Fin n => if p.val < k.val + 1 then A p else B p))) := by
  rw [bigSep_erase (Finset.mem_univ k), if_neg (Nat.lt_irrefl _)]
  rw [bigSep_erase (Φ := fun p : Fin n => if p.val < k.val + 1 then A p else B p) (Finset.mem_univ k), if_pos (Nat.lt_succ_self _)]
  rw [bigSep_congr (Ψ := fun p : Fin n => if p.val < k.val + 1 then A p else B p) (s := Finset.univ.erase k) (fun p hp => by
    have hne : p.val ≠ k.val := fun h => (Finset.mem_erase.mp hp).1 (Fin.ext h)
    show (if p.val < k.val then A p else B p) = _
    by_cases h : p.val < k.val
    · rw [if_pos h, if_pos (Nat.lt_succ_of_lt h)]
    · rw [if_neg h, if_neg (by omega)])]
  exact sep_mono_right (wand_intro (sep_comm.1))

/-- Before the first step every member of the family is of the second kind. -/
theorem family_zero {n : Nat} (A B : Fin n → sProp M) :
    bigSep Finset.univ (fun p : Fin n => if p.val < 0 then A p else B p) = bigSep Finset.univ B :=
  bigSep_congr fun p _ => if_neg (Nat.not_lt_zero _)
/-- After the last step every member of the family is of the first kind. -/
theorem family_all {n : Nat} (A B : Fin n → sProp M) :
    bigSep Finset.univ (fun p : Fin n => if p.val < n then A p else B p) = bigSep Finset.univ A :=
  bigSep_congr fun p _ => if_pos p.isLt
end Family

section Rules
variable {nD : Nat} {τ : Topo} {sig : RefSig} {Val : EltTy → Type} {Λ : Labels}
local notation "𝕄" => MT nD τ sig Unit Val ℕ (Pipeline.UD sig nD τ) ℕ

/-- The weakest precondition of a kernel program on core `c`. -/
abbrev wpc (defs : Defs nD τ sig Val Λ) (c : Dev nD) {α : Type} (p : Prog (TpuEff nD τ sig Val Λ .tc) α) (Q : α → sProp 𝕄) : sProp 𝕄 :=
  wp frame (wpE defs Variants.none (c : Thread nD τ) none) Set.univ p Q

variable {defs : Defs nD τ sig Val Λ} (c : Dev nD) {α : Type} {s : Shape} {e : EltTy} {cs : CoreSpace}

/-- A buffer of core `c` held whole at contents `f`. -/
abbrev held {sp : Space} (c : Dev nD) (m : Memref sig .tc sp s e) (f : Buf Val (m.view.loc (c : Thread nD τ))) : sProp 𝕄 :=
  m.view.loc (c : Thread nD τ) ↦{fullShare} f

/-- A load through a rectangle of a buffer held whole. -/
theorem ld {Q : α → sProp 𝕄} (m : Memref sig .tc cs s e) {r : Rect s} {hl : m.view.LoadsAt r}
    {k : (r.shape.Idx → Val e) → Prog (TpuEff nD τ sig Val Λ .tc) α} {f : Buf Val (m.view.loc (c : Thread nD τ))} :
    held c m f ⊢ iprop((held c m f -∗ wpc defs c (k ((m.access r).read Val f)) Q) -∗ wpc defs c (.op (.load m r.toLoadRect hl) k) Q) :=
  wp_load_rect (m := m) (r := r) Variants.none (c : Thread nD τ) none Set.univ (Finset.subset_univ _)

/-- A load through a rectangle of which some elements of the buffer, the rectangle's among them, are held. -/
theorem ldS {Q : α → sProp 𝕄} (m : Memref sig .tc cs s e) {r : Rect s} {hl : m.view.LoadsAt r}
    {k : (r.shape.Idx → Val e) → Prog (TpuEff nD τ sig Val Λ .tc) α} {S : Finset (Idx (m.view.loc (c : Thread nD τ)))}
    {f : Buf Val (m.view.loc (c : Thread nD τ))} (hS : (m.access r).set ⊆ S) :
    (m.view.loc (c : Thread nD τ) ↦[S]{fullShare} f : sProp 𝕄)
      ⊢ iprop(((m.view.loc (c : Thread nD τ) ↦[S]{fullShare} f) -∗ wpc defs c (k ((m.access r).read Val f)) Q)
        -∗ wpc defs c (.op (.load m r.toLoadRect hl) k) Q) :=
  wp_load_rect (m := m) (r := r) Variants.none (c : Thread nD τ) none Set.univ hS

/-- The load of one element of a scalar buffer held whole. -/
theorem lds {Q : α → sProp 𝕄} (m : Memref sig .tc .smem s e) {r : Rect s} {h1 : r.shape.numel = 1} {hp : EltTy.packing e = 1}
    {k : Val e → Prog (TpuEff nD τ sig Val Λ .tc) α} {f : Buf Val (m.view.loc (c : Thread nD τ))} :
    held c m f ⊢ iprop((held c m f -∗ wpc defs c (k ((m.access r).read Val f (Shape.Idx.first (by omega)))) Q)
      -∗ wpc defs c (smemLoad m r h1 hp >>= k) Q) := by
  unfold smemLoad smemLoadElt
  simp only [Prog.bind_op, Prog.bind_ret]
  exact wp_load_rect (m := m) (r := r) (k := fun v => k (v (Shape.Idx.first (by omega)))) Variants.none (c : Thread nD τ) none Set.univ (Finset.subset_univ _)

/-- A store through a rectangle of a buffer held whole. -/
theorem st {Q : α → sProp 𝕄} (m : Memref sig .tc cs s e) {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {f : Buf Val (m.view.loc (c : Thread nD τ))} :
    held c m f ⊢ iprop((held c m ((m.access r).write Val f w Finset.univ) -∗ wpc defs c (k ⟨⟩) Q)
      -∗ wpc defs c (.op (.store m r w Finset.univ hx hm) k) Q) :=
  wp_store (m := m) (r := r) Variants.none (c : Thread nD τ) none Set.univ (Finset.subset_univ _)

/-- What core `c` holds of a transfer in flight on its semaphore `sm`, `n` units long, delivering `D`. -/
abbrev fly (c : Dev nD) (sm : DmaSem sig) (n : Nat) (D : sProp 𝕄) : sProp 𝕄 :=
  Transfers.Flight (countersEmb (U := Pipeline.UD sig nD τ)) (c : Thread nD τ) (.dma sm) () n D

/-- The core owes nothing, whatever waits it has recorded. -/
abbrev idle (c : Dev nD) : sProp 𝕄 := iprop(∃ W, owes (c : Thread nD τ) 0 W)

/-- Starting a copy: source, destination and the semaphore at zero go into the flight. -/
theorem start {Q : α → sProp 𝕄} {sp sp' : Space} (src : Memref sig .tc sp s e) (dst : Memref sig .tc sp' s e) (sm : DmaSem sig) (hpos : 0 < s.numel)
    {hsrc : src.view.WordExact} {hdst : dst.view.WordExact} {hsem : DmaTarget.Typed (nD := nD) (p := (.tc : Proc τ)) sp (.dma sm) (.here dst)}
    {k : PUnit → Prog (TpuEff nD τ sig Val Λ .tc) α} {fs : Buf Val (src.view.loc (c : Thread nD τ))}
    {fd : Buf Val (dst.view.loc (c : Thread nD τ))} :
    iprop((src.view.loc (c : Thread nD τ) ↦[src.view.set]{fullShare} fs) ∗ (dst.view.loc (c : Thread nD τ) ↦[dst.view.set]{fullShare} fd)
        ∗ semVal ((c : Thread nD τ), .dma sm) 0)
      ⊢ iprop((fly c sm dst.view.dmaCredit iprop((dst.view.loc (c : Thread nD τ) ↦[dst.view.set]{fullShare} dst.view.write Val fd (src.view.read Val fs) Finset.univ)
            ∗ (src.view.loc (c : Thread nD τ) ↦[src.view.set]{fullShare} fs)) -∗ wpc defs c (k ⟨⟩) Q)
        -∗ wpc defs c (.op (.enqueueDma src (.here dst) (.dma sm) hsrc hdst hsem) k) Q) :=
  Transfers.wp_dmaLocal (countersEmb (U := Pipeline.UD sig nD τ)) Variants.none (c : Thread nD τ) none
    (src := src) (via := .same) (dst := dst) (sm := .dma sm) (hsem := hsem) () dst.view.dmaCredit rfl (View.dmaCredit_pos _ hpos) (Finset.Subset.refl _)

/-- Starting a copy of a whole buffer over a whole buffer. -/
theorem startWhole {Q : α → sProp 𝕄} {sp sp' : Space} (src : Memref sig .tc sp s e) (dst : Memref sig .tc sp' s e) (sm : DmaSem sig) (hpos : 0 < s.numel)
    (hs : src.view.set = Finset.univ) (hd : dst.view.set = Finset.univ)
    {hsrc : src.view.WordExact} {hdst : dst.view.WordExact} {hsem : DmaTarget.Typed (nD := nD) (p := (.tc : Proc τ)) sp (.dma sm) (.here dst)}
    {k : PUnit → Prog (TpuEff nD τ sig Val Λ .tc) α} {fs : Buf Val (src.view.loc (c : Thread nD τ))}
    {fd : Buf Val (dst.view.loc (c : Thread nD τ))} :
    iprop(held c src fs ∗ held c dst fd ∗ semVal ((c : Thread nD τ), .dma sm) 0)
      ⊢ iprop((fly c sm dst.view.dmaCredit iprop(held c dst (dst.view.write Val fd (src.view.read Val fs) Finset.univ) ∗ held c src fs) -∗ wpc defs c (k ⟨⟩) Q)
        -∗ wpc defs c (.op (.enqueueDma src (.here dst) (.dma sm) hsrc hdst hsem) k) Q) := by
  have h := start (Q := Q) (defs := defs) c src dst sm hpos (hsrc := hsrc) (hdst := hdst) (hsem := hsem) (k := k) (fs := fs) (fd := fd)
  rw [hs, hd] at h
  exact h

/-- Waiting for a copy gives back what it delivers, and the semaphore at zero. -/
theorem await {Q : α → sProp 𝕄} {sp sp' : Space} {s' : Shape} {e' : EltTy} (src : Memref sig .tc sp s' e') (dst : Memref sig .tc sp' s e) (sm : DmaSem sig)
    {hsrc : src.view.WordExact} {hdst : dst.view.WordExact}
    {k : PUnit → Prog (TpuEff nD τ sig Val Λ .tc) α} {D : sProp 𝕄} {n : Nat} (hn : dst.view.dmaCredit = n) :
    iprop(fly c sm n D ∗ idle c)
      ⊢ iprop((iprop(D ∗ semVal ((c : Thread nD τ), .dma sm) 0 ∗ idle c) -∗ wpc defs c (k ⟨⟩) Q)
        -∗ wpc defs c (.op (.waitDma2 sm src dst hsrc hdst) k) Q) := by
  iintro ⟨Hf, ⟨%W, HW⟩⟩ Hk
  iapply (Transfers.wp_waitLocal (countersEmb (U := Pipeline.UD sig nD τ)) Variants.none (c : Thread nD τ) none
    (srcw := src) (dstw := dst) () hn) $$ [Hf HW]
  · isplitl [Hf]; · iexact Hf
    iexact HW
  iintro ⟨HD, Hs, HW⟩
  iapply Hk
  isplitl [HD]; · iexact HD
  isplitl [Hs]; · iexact Hs
  iexists _
  iexact HW

/-- A counted loop whose trips take the state `I k` to `I (k + 1)`. -/
theorem loop {w : Nat} (l : Scf.Loop w) (hok : l.OK) (body : Fin l.trips → Prog (TpuEff nD τ sig Val Λ .tc) PUnit) (I : Nat → sProp 𝕄)
    (h : ∀ k : Fin l.trips, I k.val ⊢ wpc defs c (body k) (fun _ => I (k.val + 1))) {n : Nat} (hn : l.trips = n) :
    I 0 ⊢ wpc defs c (Scf.Loop.for l hok PUnit.unit (fun k _ => body k)) (fun _ => I n) := by
  subst hn
  refine BIBase.Entails.trans ?_ (Scf.wp_for frame (wpE defs Variants.none (c : Thread nD τ) none) Set.univ l.lb l.ub l.st hok PUnit.unit
    (fun k _ => body k) (fun i _ => I i) (fun k _ => h k))
  iintro H
  isplitl [H]; · iexact H
  iintro %acc H
  iexact H

end Rules
end Cert.Base
end
-- ==== Proof.Steps.lean ====
module

public import proofs.«01_k».proof.Proof.Refold
public import proofs.«01_k».proof.Proof.Base

@[expose] public section

set_option synthInstance.maxSize 4096

noncomputable section

namespace Cert.Kernel.Hand

open Cert.Base Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weakest precondition of a program of the kernel on core `c`. -/
abbrev wpk (c : Dev nD) {α : Type} (p : Prog (TpuEff nD τ sig (Elt F) Λ₀ .tc) α) (Q : α → sProp 𝕄) : sProp 𝕄 :=
  wpc (defs₀ (F := F)) c p Q

/-- A sequence of steps each taking the state `I i` to `I (i + 1)` takes `I 0` to `I n`. -/
theorem wp_seqFin (c : Dev nD) : ∀ (n : Nat) (I : Nat → sProp 𝕄) (p : Fin n → PK F PUnit),
    (∀ i : Fin n, I i.val ⊢ wpk c (p i) (fun _ => I (i.val + 1))) → I 0 ⊢ wpk c (seqFin n p) (fun _ => I n)
  | 0, I, p, _ => le_wp_ret _ _ _ _ (fun _ => I 0)
  | n + 1, I, p, h => by
    show I 0 ⊢ wp _ _ _ (p 0 >>= fun _ => seqFin n (fun i => p i.succ)) _
    rw [wp_bind]
    refine (h 0).trans (wp_mono _ _ _ fun _ => ?_)
    exact wp_seqFin c n (fun i => I (i + 1)) (fun i => p i.succ) (fun i => h i.succ)

attribute [local irreducible] seqFin

section Steps
variable (c : Dev nD)
  (arg2 : Memref sig .tc .hbm S4096x14336 .fp8e4m3) (harg2 : arg2.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3)
  (arg8 : Memref sig .tc .vmem S48x4096 .f32)
  (arg11 : Memref sig .tc .smem S8x112 .i32)
  (arg13 : DmaSems sig S28)

/-! ## Scaling the activations -/

/-- What scaling tile `g` leaves in the buffer of scaled activations. -/
def updX (xs : FVec F S48x112 .bf16) (x : Buf (Elt F) (arg7.view.loc (c : Thread nD τ))) (g : Fin 112)
    (f : Buf (Elt F) (arg6.view.loc (c : Thread nD τ))) : Buf (Elt F) (arg6.view.loc (c : Thread nD τ)) :=
  (arg6.access (Rect.unit (s := S48x14336) ![0, 128 * g.val] S48x128.size (inbX g))).write (Elt F) f
    (tileX xs g ((arg7.access (Rect.unit (s := S48x14336) ![0, 128 * g.val] S48x128.size (inbX g))).read (Elt F) x)) Finset.univ

/-- The step of group `g` writes the group's scaled tile and leaves the codes as they were. -/
theorem wp_stepX (xs : FVec F S48x112 .bf16) (g : Fin 112) (x : Buf (Elt F) (arg7.view.loc (c : Thread nD τ)))
    (f : Buf (Elt F) (arg6.view.loc (c : Thread nD τ))) :
    iprop(held c arg7 x ∗ held c arg6 f) ⊢ wpk c (stepX arg6 harg6 arg7 xs g)
      (fun _ => iprop(held c arg7 x ∗ held c arg6 (updX c arg6 arg7 xs x g f))) := by
  unfold stepX
  simp only [Prog.lift, Prog.bind_op, Prog.bind_ret]
  iintro ⟨H7, H6⟩
  iapply (ld c arg7) $$ H7
  iintro H7
  iapply (ld c arg6) $$ H6
  iintro H6
  iapply (st c arg6) $$ H6
  iintro H6
  iapply (le_wp_ret _ _ _ _ _)
  isplitl [H7]; · iexact H7
  iexact H6

/-! ## The weights' panels -/

/-- Panel `p` of the weights where they lie. -/
abbrev src2 (p : Fin 28) : Memref sig .tc .hbm S4096x512 .fp8e4m3 :=
  arg2.slice (Rect.unit (s := S4096x14336) ![0, 512 * p.val] S4096x512.size (inbW2 p)) (fun _ => rfl)
/-- Panel `p` of the buffer the weights are copied to. -/
abbrev dst5 (p : Fin 28) : Memref sig .tc .vmem S4096x512 .fp8e4m3 :=
  arg5.slice (Rect.unit (s := S4096x14464) ![0, 512 * p.val] S4096x512.size (inbW5 p)) (fun _ => rfl)
/-- The semaphore of panel `p`'s copy. -/
abbrev semW (p : Fin 28) : DmaSem sig := ((arg13.slice (Rect.unit (s := S28) ![p.val] S1.size (inbSem p))).squeeze S_ squeezes_S1_S_).sem

variable (f2 : Buf (Elt F) (arg2.view.loc (c : Thread nD τ))) (f5 : Buf (Elt F) (arg5.view.loc (c : Thread nD τ)))

/-- The buffer of weights once panel `p` has been copied. -/
def buf5 (p : Fin 28) : Buf (Elt F) (arg5.view.loc (c : Thread nD τ)) :=
  (dst5 arg5 p).view.write (Elt F) f5 ((src2 arg2 p).view.read (Elt F) f2) Finset.univ

/-- Panel `p` copied, and its source. -/
def dl (p : Fin 28) : sProp 𝕄 :=
  iprop(((dst5 arg5 p).view.loc (c : Thread nD τ) ↦[(dst5 arg5 p).view.set]{fullShare} buf5 c arg2 arg5 f2 f5 p)
    ∗ ((src2 arg2 p).view.loc (c : Thread nD τ) ↦[(src2 arg2 p).view.set]{fullShare} f2))
/-- Panel `p` before its copy starts. -/
def In (p : Fin 28) : sProp 𝕄 :=
  iprop(((src2 arg2 p).view.loc (c : Thread nD τ) ↦[(src2 arg2 p).view.set]{fullShare} f2)
    ∗ ((dst5 arg5 p).view.loc (c : Thread nD τ) ↦[(dst5 arg5 p).view.set]{fullShare} f5)
    ∗ semVal ((c : Thread nD τ), .dma (semW arg13 p)) 0)
/-- Panel `p` in flight. -/
def Fl (p : Fin 28) : sProp 𝕄 := fly c (semW arg13 p) (dst5 arg5 p).view.dmaCredit (dl c arg2 arg5 f2 f5 p)
/-- Panel `p` copied, its semaphore at zero again. -/
def Dn (p : Fin 28) : sProp 𝕄 := iprop(dl c arg2 arg5 f2 f5 p ∗ semVal ((c : Thread nD τ), .dma (semW arg13 p)) 0)

/-- The start of the copy of panel `p` sends the panel on its way. -/
theorem wp_startW (p : Fin 28) :
    In c arg2 arg5 arg13 f2 f5 p ⊢ wpk c (startW arg2 harg2 arg5 harg5 arg13 p) (fun _ => Fl c arg2 arg5 arg13 f2 f5 p) := by
  unfold startW In Fl dl buf5
  simp only [Prog.lift]
  iintro ⟨H2, H5, Hs⟩
  iapply (start c (src2 arg2 p) (dst5 arg5 p) (semW arg13 p) (Shape.numel_pos (by decide))) $$ [H2 H5 Hs]
  · isplitl [H2]; · iexact H2
    isplitl [H5]; · iexact H5
    iexact Hs
  iintro Hf
  iapply (le_wp_ret _ _ _ _ _)
  iexact Hf

/-- The starts of all the copies. -/
theorem wp_starts :
    bigSep Finset.univ (In c arg2 arg5 arg13 f2 f5) ⊢ wpk c (seqFin 28 (startW arg2 harg2 arg5 harg5 arg13))
      (fun _ => bigSep Finset.univ (Fl c arg2 arg5 arg13 f2 f5)) := by
  have h := wp_seqFin (F := F) c 28 (fun i => bigSep Finset.univ (fun p : Fin 28 => if p.val < i then Fl c arg2 arg5 arg13 f2 f5 p else In c arg2 arg5 arg13 f2 f5 p))
    (startW arg2 harg2 arg5 harg5 arg13) (fun i => by
      refine (family_step _ _ i).trans ?_
      refine (sep_mono_left (wp_startW c arg2 harg2 arg5 harg5 arg13 f2 f5 i)).trans ?_
      refine (wp_frame_r _ _ _).trans (wp_mono _ _ _ fun _ => ?_)
      exact wand_elim_right)
  rw [family_zero, family_all] at h
  exact h

/-- The loop has 28 trips. -/
theorem trips_eq : k0_t1_loop.trips = 28 := by decide +kernel
/-- A trip of the loop as a panel's number. -/
abbrev pan (k : Fin k0_t1_loop.trips) : Fin 28 := k.cast trips_eq

/-- The semaphore that trip `k` waits on is its panel's. -/
theorem sem_eq (k : Fin k0_t1_loop.trips) :
    ((arg13.slice (Rect.unit (s := S28) (k0_off1 k) S1.size (k0_off1_inb k))).squeeze S_ squeezes_S1_S_).sem = semW arg13 (pan k) := by
  have h : ∀ (o o' : Fin 1 → Nat) (ho : o = o') (h : ∀ a, o a + S1.size a ≤ S28.size a) (h' : ∀ a, o' a + S1.size a ≤ S28.size a),
      ((arg13.slice (Rect.unit (s := S28) o S1.size h)).squeeze S_ squeezes_S1_S_).sem
        = ((arg13.slice (Rect.unit (s := S28) o' S1.size h')).squeeze S_ squeezes_S1_S_).sem := by
    intro o o' ho h h'; subst ho; rfl
  exact h _ _ (k0_off1_eq k) _ _

/-- The wait of trip `k` ends with the trip's panel copied. -/
theorem wp_waitW (k : Fin k0_t1_loop.trips) :
    iprop(Fl c arg2 arg5 arg13 f2 f5 (pan k) ∗ idle (Val := Elt F) c) ⊢ wpk c (waitW arg2 harg2 arg5 harg5 arg13 k)
      (fun _ => iprop(Dn c arg2 arg5 arg13 f2 f5 (pan k) ∗ idle (Val := Elt F) c)) := by
  unfold waitW Fl Dn
  rw [sem_eq]
  simp only [Prog.lift]
  iintro H
  iapply (await c (arg2.slice (Rect.unit (s := S4096x14336) (k0_off3 k) S4096x512.size (k0_off3_inb k)) (fun _ => rfl))
    (arg5.slice (Rect.unit (s := S4096x14464) (k0_off2 k) S4096x512.size (k0_off2_inb k)) (fun _ => rfl)) (semW arg13 (pan k)) (n := (dst5 arg5 (pan k)).view.dmaCredit) rfl) $$ H
  iintro ⟨HD, Hs, HW⟩
  iapply (le_wp_ret _ _ _ _ _)
  isplitr [HW]
  · isplitl [HD]; · iexact HD
    iexact Hs
  iexact HW

/-! ## The strips of a panel -/

variable (f6 : Buf (Elt F) (arg6.view.loc (c : Thread nD τ))) (f11 : Buf (Elt F) (arg11.view.loc (c : Thread nD τ)))

/-- Tile `i` of panel `k` of the scaled activations. -/
def xTile (k : Fin k0_t1_loop.trips) (i : Fin 4) : Vec F S48x128 .bf16 :=
  (arg6.access (Rect.unit (s := S48x14336) (xwOff k i.val) S48x128.size (inbXk k i))).read (Elt F) f6
/-- The scale word of tile `i` of panel `k`, row `r`. -/
def sWord (k : Fin k0_t1_loop.trips) (r : Fin 8) (i : Fin 4) : Elt F .i32 :=
  (arg11.access (Rect.unit (s := S8x112) (wsOff k r.val i.val) S1x1.size (inbWs k r i))).read (Elt F) f11 (Shape.Idx.first (s := S1x1) (by rw [numel1_S1x1]; exact Nat.one_pos))
/-- Strip `j` of panel `k` of the weights. -/
def wStrip (k : Fin k0_t1_loop.trips) (j : Fin 16) : Vec F S256x512 .fp8e4m3 :=
  (arg5.access (Rect.unit (s := S4096x14464) (wOff k j.val) S256x512.size (inbW k j))).read (Elt F) (buf5 c arg2 arg5 f2 f5 (pan k))
/-- Panel `k`'s activations scaled for the output rows whose scale lies `sh` bits up in the words of row `r`. -/
def bandAt (k : Fin k0_t1_loop.trips) (r : Fin 8) (sh : BitVec 32) : FVec F S48x512 .bf16 :=
  band sh (xTile c arg6 f6 k 0) (xTile c arg6 f6 k 1) (xTile c arg6 f6 k 2) (xTile c arg6 f6 k 3)
    (sWord c arg11 f11 k r 0) (sWord c arg11 f11 k r 1) (sWord c arg11 f11 k r 2) (sWord c arg11 f11 k r 3)
/-- Panel `k`'s product with strip `j`. -/
def dot2 (k : Fin k0_t1_loop.trips) (j : Fin 16) : FVec F S128x256 .f32 :=
  strip2 (bandAt c arg6 arg11 f6 f11 k ⟨j.val / 2, row_lt j⟩ (BitVec.ofNat 32 (16 * (j.val % 2))))
    (bandAt c arg6 arg11 f6 f11 k ⟨j.val / 2, row_lt j⟩ (BitVec.ofNat 32 (16 * (j.val % 2) + 8)))
    (wStrip c arg2 arg5 f2 f5 k j)

/-- Tile `n` of the accumulator, as a view. -/
abbrev accV (n : Fin 32) := arg8.access (Rect.unit (s := S48x4096) ![0, 128 * n.val] S48x128.size (inbA n))

/-- What strip `j` of panel `k` leaves in the accumulator. -/
def updA (k : Fin k0_t1_loop.trips) (j : Fin 16) (a : Buf (Elt F) (arg8.view.loc (c : Thread nD τ))) : Buf (Elt F) (arg8.view.loc (c : Thread nD τ)) :=
  have a' := (accV arg8 ⟨2 * j.val, colA_lt j⟩).write (Elt F) a
    (addA ((accV arg8 ⟨2 * j.val, colA_lt j⟩).read (Elt F) a) (dot2 c arg2 arg5 arg6 arg11 f2 f5 f6 f11 k j)) Finset.univ
  (accV arg8 ⟨2 * j.val + 1, colB_lt j⟩).write (Elt F) a'
    (addB ((accV arg8 ⟨2 * j.val + 1, colB_lt j⟩).read (Elt F) a') (dot2 c arg2 arg5 arg6 arg11 f2 f5 f6 f11 k j)) Finset.univ

/-- Strip `j` of panel `k` begins at row `256 j` and column `512 k`. -/
theorem wOff_eq (k : Fin k0_t1_loop.trips) (j : Fin 16) : wOff k j.val = ![256 * j.val, 512 * k.val] := by
  revert k j; decide +kernel

/-- The strip lies in its panel. -/
theorem strip_sub (k : Fin k0_t1_loop.trips) (j : Fin 16) :
    (arg5.access (Rect.unit (s := S4096x14464) (wOff k j.val) S256x512.size (inbW k j))).set ⊆ (dst5 arg5 (pan k)).view.set := by
  rw [View.set_slice, View.set_slice]
  refine Finset.map_subset_map.mpr ?_
  intro x hx
  rw [Rect.mem_set_unit] at hx ⊢
  intro a
  have := hx a
  rw [wOff_eq] at this
  have hj := j.isLt
  fin_cases a
  · simp [Shape.size] at this ⊢; omega
  · simp at this ⊢; omega

/-- Strip `j` of a panel adds its products to two blocks of the accumulator and leaves what it reads as it was. -/
theorem wp_strip (k : Fin k0_t1_loop.trips) (j : Fin 16) (a : Buf (Elt F) (arg8.view.loc (c : Thread nD τ))) :
    iprop(dl c arg2 arg5 f2 f5 (pan k) ∗ held c arg6 f6 ∗ held c arg11 f11 ∗ held c arg8 a)
      ⊢ wpk c (strip arg5 arg6 arg8 arg11 k j)
      (fun _ => iprop(dl c arg2 arg5 f2 f5 (pan k) ∗ held c arg6 f6 ∗ held c arg11 f11
        ∗ held c arg8 (updA c arg2 arg5 arg6 arg8 arg11 f2 f5 f6 f11 k j a))) := by
  unfold strip loadX loadS dl
  simp only [Prog.lift, Prog.bind_op, Prog.bind_ret]
  iintro ⟨⟨H5, H2⟩, H6, H11, H8⟩
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ldS c arg5 (strip_sub arg5 k j)) $$ H5
  iintro H5
  iapply (ld c arg8) $$ H8
  iintro H8
  iapply (ld c arg8) $$ H8
  iintro H8
  iapply (st c arg8) $$ H8
  iintro H8
  iapply (ld c arg8) $$ H8
  iintro H8
  iapply (ld c arg8) $$ H8
  iintro H8
  iapply (st c arg8) $$ H8
  iintro H8
  iapply (le_wp_ret _ _ _ _ _)
  isplitl [H5 H2]
  · isplitl [H5]; · iexact H5
    iexact H2
  isplitl [H6]; · iexact H6
  isplitl [H11]; · iexact H11
  iexact H8

end Steps

end Cert.Kernel.Hand

end
-- ==== Proof.Body.lean ====
module

public import proofs.«01_k».proof.Proof.Steps

@[expose] public section

set_option synthInstance.maxSize 4096

noncomputable section

namespace Cert.Kernel.Hand

open Cert.Base Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

attribute [local irreducible] seqFin

section Body
variable (c : Dev nD)
  (arg0 : Memref sig .tc .hbm S48x14336 .fp8e4m3) (harg0 : arg0.IsWhole)
  (arg1 : Memref sig .tc .hbm S48x112 .i8) (harg1 : arg1.IsWhole)
  (arg2 : Memref sig .tc .hbm S4096x14336 .fp8e4m3) (harg2 : arg2.IsWhole)
  (arg3 : Memref sig .tc .hbm S8x112 .i32) (harg3 : arg3.IsWhole)
  (arg4 : Memref sig .tc .hbm S48x4096 .bf16) (harg4 : arg4.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg9 : Memref sig .tc .vmem S48x4096 .bf16) (harg9 : arg9.IsWhole)
  (arg10 : Memref sig .tc .vmem S48x112 .i8) (harg10 : arg10.IsWhole)
  (arg11 : Memref sig .tc .smem S8x112 .i32) (harg11 : arg11.IsWhole)
  (arg12 : DmaSems sig S3) (arg13 : DmaSems sig S28) (arg14 : DmaSems sig S_)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-! ## All the activations -/

/-- The steps over all 112 groups leave the activations scaled and their codes as they were. -/
theorem wp_scale (xs : FVec F S48x112 .bf16) (x : Buf (Elt F) (arg7.view.loc (c : Thread nD τ))) :
    iprop(held c arg7 x ∗ held c arg6 f6) ⊢ wpk c (seqFin 112 (stepX arg6 harg6 arg7 xs))
      (fun _ => iprop(held c arg7 x ∗ held c arg6 (upTo (updX c arg6 arg7 xs x) f6 112))) := by
  have h := wp_seqFin (F := F) c 112 (fun i => iprop(held c arg7 x ∗ held c arg6 (upTo (updX c arg6 arg7 xs x) f6 i))) (stepX arg6 harg6 arg7 xs) (fun g => by
    rw [upTo_succ]
    exact wp_stepX c arg6 harg6 arg7 xs g x _)
  rw [upTo_zero] at h
  exact h

/-! ## The loop over the panels -/

/-- What a trip of the loop leaves in the accumulator. -/
def updT (k : Fin k0_t1_loop.trips) (a : Buf (Elt F) (arg8.view.loc (c : Thread nD τ))) : Buf (Elt F) (arg8.view.loc (c : Thread nD τ)) :=
  upTo (updA c arg2 arg5 arg6 arg8 arg11 f2 f5 f6 f11 k) a 16

/-- The 16 strips of a panel leave the accumulator with the panel's products added, and what they read as it was. -/
theorem wp_strips (k : Fin k0_t1_loop.trips) (a : Buf (Elt F) (arg8.view.loc (c : Thread nD τ))) :
    iprop(dl c arg2 arg5 f2 f5 (pan k) ∗ held c arg6 f6 ∗ held c arg11 f11 ∗ held c arg8 a)
      ⊢ wpk c (seqFin 16 (strip arg5 arg6 arg8 arg11 k))
      (fun _ => iprop(dl c arg2 arg5 f2 f5 (pan k) ∗ held c arg6 f6 ∗ held c arg11 f11
        ∗ held c arg8 (updT c arg2 arg5 arg6 arg8 arg11 f2 f5 f6 f11 k a))) := by
  have h := wp_seqFin (F := F) c 16 (fun i => iprop(dl c arg2 arg5 f2 f5 (pan k) ∗ held c arg6 f6 ∗ held c arg11 f11
        ∗ held c arg8 (upTo (updA c arg2 arg5 arg6 arg8 arg11 f2 f5 f6 f11 k) a i))) (strip arg5 arg6 arg8 arg11 k) (fun j => by
    rw [upTo_succ]
    exact wp_strip c arg2 arg5 arg6 arg8 arg11 f2 f5 f6 f11 k j _)
  rw [upTo_zero] at h
  unfold updT
  exact h

/-- The state of the loop before trip `k`. -/
def Lp (k : Nat) : sProp 𝕄 :=
  iprop(bigSep Finset.univ (fun p : Fin 28 => if p.val < k then Dn c arg2 arg5 arg13 f2 f5 p else Fl c arg2 arg5 arg13 f2 f5 p)
    ∗ idle (Val := Elt F) c ∗ held c arg6 f6 ∗ held c arg11 f11
    ∗ held c arg8 (upTo (updT c arg2 arg5 arg6 arg8 arg11 f2 f5 f6 f11) f8 k))

/-- A trip of the loop takes the state before it to the state after it: it waits for its panel and adds the panel's products. -/
theorem wp_trip (k : Fin k0_t1_loop.trips) :
    Lp c arg2 arg5 arg6 arg8 arg11 arg13 f2 f5 f6 f8 f11 k.val
      ⊢ wpk c (waitW arg2 harg2 arg5 harg5 arg13 k >>= fun _ => seqFin 16 (strip arg5 arg6 arg8 arg11 k))
      (fun _ => Lp c arg2 arg5 arg6 arg8 arg11 arg13 f2 f5 f6 f8 f11 (k.val + 1)) := by
  unfold Lp wpk wpc
  rw [upTo_succ, wp_bind]
  iintro ⟨HB, HW, H6, H11, H8⟩
  have hfam : bigSep Finset.univ (fun p : Fin 28 => if p.val < k.val then Dn c arg2 arg5 arg13 f2 f5 p else Fl c arg2 arg5 arg13 f2 f5 p)
      ⊢ iprop(Fl c arg2 arg5 arg13 f2 f5 (pan k) ∗ (Dn c arg2 arg5 arg13 f2 f5 (pan k)
        -∗ bigSep Finset.univ (fun p : Fin 28 => if p.val < k.val + 1 then Dn c arg2 arg5 arg13 f2 f5 p else Fl c arg2 arg5 arg13 f2 f5 p))) :=
    family_step (Dn c arg2 arg5 arg13 f2 f5) (Fl c arg2 arg5 arg13 f2 f5) (pan k)
  ihave HB := hfam $$ HB
  icases HB with ⟨HF, HB⟩
  iapply (wp_wand _ _ _) $$ [HF HW]
  · iapply (wp_waitW c arg2 harg2 arg5 harg5 arg13 f2 f5 k) $$ [HF HW]
    isplitl [HF]; · iexact HF
    iexact HW
  iintro %u ⟨HD, HW⟩
  unfold Dn
  icases HD with ⟨HD, Hs⟩
  iapply (wp_wand _ _ _) $$ [HD H6 H11 H8]
  · iapply (wp_strips c arg2 arg5 arg6 arg8 arg11 f2 f5 f6 f11 k _) $$ [HD H6 H11 H8]
    isplitl [HD]; · iexact HD
    isplitl [H6]; · iexact H6
    isplitl [H11]; · iexact H11
    iexact H8
  iintro %u ⟨HD, H6, H11, H8⟩
  isplitl [HB HD Hs]
  · iapply HB
    isplitl [HD]; · iexact HD
    iexact Hs
  isplitl [HW]; · iexact HW
  isplitl [H6]; · iexact H6
  isplitl [H11]; · iexact H11
  iexact H8

/-- The loop takes its first state to its last. -/
theorem wp_loop :
    Lp c arg2 arg5 arg6 arg8 arg11 arg13 f2 f5 f6 f8 f11 0
      ⊢ wpk c (Scf.Loop.for k0_t1_loop k0_t1_ok ⟨⟩ (fun k _ => (waitW arg2 harg2 arg5 harg5 arg13 k >>= fun _ => seqFin 16 (strip arg5 arg6 arg8 arg11 k))))
      (fun _ => Lp c arg2 arg5 arg6 arg8 arg11 arg13 f2 f5 f6 f8 f11 28) :=
  loop c k0_t1_loop k0_t1_ok _ (Lp c arg2 arg5 arg6 arg8 arg11 arg13 f2 f5 f6 f8 f11)
    (fun k => wp_trip c arg2 harg2 arg5 harg5 arg6 arg8 arg11 arg13 f2 f5 f6 f8 f11 k) trips_eq

/-! ## The whole body -/

/-- The activation scales' codes as copied. -/
def c10 : Buf (Elt F) (arg10.view.loc (c : Thread nD τ)) := arg10.view.write (Elt F) f10 (arg1.view.read (Elt F) f1) Finset.univ
/-- The weight scales' words as copied. -/
def c11 : Buf (Elt F) (arg11.view.loc (c : Thread nD τ)) := arg11.view.write (Elt F) f11 (arg3.view.read (Elt F) f3) Finset.univ
/-- The activations as copied. -/
def c7 : Buf (Elt F) (arg7.view.loc (c : Thread nD τ)) := arg7.view.write (Elt F) f7 (arg0.view.read (Elt F) f0) Finset.univ
/-- The accumulator at the start. -/
def c8 : Buf (Elt F) (arg8.view.loc (c : Thread nD τ)) :=
  (arg8.access (Rect.unit (s := S48x4096) ![0, 0] S48x4096.size inb_S48x4096_S48x4096_0_0)).write (Elt F) f8 (k0_pay154 (F := F)) Finset.univ
/-- The scaled activations. -/
def c6 : Buf (Elt F) (arg6.view.loc (c : Thread nD τ)) :=
  upTo (updX c arg6 arg7 (scaleX ((arg10.access (Rect.unit (s := S48x112) ![0, 0] S48x112.size inb_S48x112_S48x112_0_0)).read (Elt F) (c10 c arg1 arg10 f1 f10)))
    (c7 c arg0 arg7 f0 f7)) f6 112
/-- The accumulator at the end. -/
def c8' : Buf (Elt F) (arg8.view.loc (c : Thread nD τ)) :=
  upTo (updT c arg2 arg5 arg6 arg8 arg11 f2 f5 (c6 c arg0 arg1 arg6 arg7 arg10 f0 f1 f6 f7 f10) (c11 c arg3 arg11 f3 f11)) (c8 c arg8 f8) 28
/-- The rounded result before it is copied out. -/
def c9 : Buf (Elt F) (arg9.view.loc (c : Thread nD τ)) :=
  (arg9.access (Rect.unit (s := S48x4096) ![0, 0] S48x4096.size inb_S48x4096_S48x4096_0_0)).write (Elt F) f9
    (k0_pay4 ((arg8.access (Rect.unit (s := S48x4096) ![0, 0] S48x4096.size inb_S48x4096_S48x4096_0_0)).read (Elt F)
      (c8' c arg0 arg1 arg2 arg3 arg5 arg6 arg7 arg8 arg10 arg11 f0 f1 f2 f3 f5 f6 f7 f8 f10 f11))) Finset.univ
/-- The result. -/
def c4 : Buf (Elt F) (arg4.view.loc (c : Thread nD τ)) :=
  arg4.view.write (Elt F) f4 (arg9.view.read (Elt F) (c9 c arg0 arg1 arg2 arg3 arg5 arg6 arg7 arg8 arg9 arg10 arg11 f0 f1 f2 f3 f5 f6 f7 f8 f9 f10 f11)) Finset.univ

/-- One of the three semaphores of the small copies. -/
abbrev semA (j : Nat) (h : ∀ a, (![j] : Fin 1 → Nat) a + S1.size a ≤ S3.size a) : DmaSem sig :=
  ((arg12.slice (Rect.unit (s := S3) ![j] S1.size h)).squeeze S_ squeezes_S1_S_).sem

/-- The body's run. -/
theorem wp_body :
    iprop(idle (Val := Elt F) c ∗ held c arg0 f0 ∗ held c arg1 f1 ∗ held c arg3 f3 ∗ held c arg4 f4
        ∗ bigSep Finset.univ (In c arg2 arg5 arg13 f2 f5)
        ∗ held c arg6 f6 ∗ held c arg7 f7 ∗ held c arg8 f8 ∗ held c arg9 f9 ∗ held c arg10 f10 ∗ held c arg11 f11
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)
      ⊢ wpk c (body arg0 harg0 arg1 harg1 arg2 harg2 arg3 harg3 arg4 harg4 arg5 harg5 arg6 harg6 arg7 harg7 arg8 harg8 arg9 harg9 arg10 harg10 arg11 harg11 arg12 arg13 arg14)
        (fun _ => iprop(idle (Val := Elt F) c ∗ held c arg0 f0 ∗ held c arg1 f1 ∗ held c arg3 f3
        ∗ held c arg4 (c4 c arg0 arg1 arg2 arg3 arg4 arg5 arg6 arg7 arg8 arg9 arg10 arg11 f0 f1 f2 f3 f4 f5 f6 f7 f8 f9 f10 f11)
        ∗ bigSep Finset.univ (Dn c arg2 arg5 arg13 f2 f5)
        ∗ (∃ f, held c arg6 f) ∗ (∃ f, held c arg7 f) ∗ (∃ f, held c arg8 f) ∗ (∃ f, held c arg9 f) ∗ (∃ f, held c arg10 f) ∗ (∃ f, held c arg11 f)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)) := by
  unfold body
  simp only [Prog.lift, Prog.bind_op, Prog.bind_ret]
  iintro ⟨HW, H0, H1, H3, H4, HB, H6, H7, H8, H9, H10, H11, Hs0, Hs1, Hs2, Hs⟩
  iapply (startWhole c arg1 arg10 _ (Shape.numel_pos (by decide)) harg1.set_eq_univ harg10.set_eq_univ) $$ [H1 H10 Hs0]
  · isplitl [H1]; · iexact H1
    isplitl [H10]; · iexact H10
    iexact Hs0
  iintro F0
  iapply (startWhole c arg3 arg11 _ (Shape.numel_pos (by decide)) harg3.set_eq_univ harg11.set_eq_univ) $$ [H3 H11 Hs1]
  · isplitl [H3]; · iexact H3
    isplitl [H11]; · iexact H11
    iexact Hs1
  iintro F1
  iapply (startWhole c arg0 arg7 _ (Shape.numel_pos (by decide)) harg0.set_eq_univ harg7.set_eq_univ) $$ [H0 H7 Hs2]
  · isplitl [H0]; · iexact H0
    isplitl [H7]; · iexact H7
    iexact Hs2
  iintro F2
  unfold wpc
  rw [wp_bind]
  iapply (wp_wand _ _ _) $$ [HB]
  · iapply (wp_starts c arg2 harg2 arg5 harg5 arg13 f2 f5) $$ HB
  iintro %u HB
  iapply (ld c arg8) $$ H8
  iintro H8
  iapply (st c arg8) $$ H8
  iintro H8
  iapply (await c arg1 arg10 _ rfl) $$ [F0 HW]
  · isplitl [F0]; · iexact F0
    iexact HW
  iintro ⟨⟨H10, H1⟩, Hs0, HW⟩
  iapply (await c arg3 arg11 _ rfl) $$ [F1 HW]
  · isplitl [F1]; · iexact F1
    iexact HW
  iintro ⟨⟨H11, H3⟩, Hs1, HW⟩
  iapply (await c arg0 arg7 _ rfl) $$ [F2 HW]
  · isplitl [F2]; · iexact F2
    iexact HW
  iintro ⟨⟨H7, H0⟩, Hs2, HW⟩
  iapply (ld c arg10) $$ H10
  iintro H10
  unfold wpc
  rw [wp_bind]
  iapply (wp_wand _ _ _) $$ [H6 H7]
  · iapply (wp_scale c arg6 harg6 arg7 f6 _ _) $$ [H6 H7]
    isplitl [H7]; · iexact H7
    iexact H6
  iintro %u ⟨H7, H6⟩
  rw [wp_bind]
  iapply (wp_wand _ _ _) $$ [HB HW H6 H11 H8]
  · iapply (wp_loop c arg2 harg2 arg5 harg5 arg6 arg8 arg11 arg13 f2 f5 (c6 c arg0 arg1 arg6 arg7 arg10 f0 f1 f6 f7 f10) (c8 c arg8 f8) (c11 c arg3 arg11 f3 f11)) $$ [HB HW H6 H11 H8]
    unfold Lp
    rw [family_zero, upTo_zero]
    isplitl [HB]; · iexact HB
    isplitl [HW]; · iexact HW
    isplitl [H6]; · iexact H6
    isplitl [H11]; · iexact H11
    iexact H8
  iintro %u HL
  unfold Lp
  rw [family_all]
  icases HL with ⟨HB, HW, H6, H11, H8⟩
  iapply (ld c arg8) $$ H8
  iintro H8
  iapply (ld c arg9) $$ H9
  iintro H9
  iapply (st c arg9) $$ H9
  iintro H9
  iapply (startWhole c arg9 arg4 _ (Shape.numel_pos (by decide)) harg9.set_eq_univ harg4.set_eq_univ) $$ [H9 H4 Hs]
  · isplitl [H9]; · iexact H9
    isplitl [H4]; · iexact H4
    iexact Hs
  iintro F
  iapply (await c arg9 arg4 _ rfl) $$ [F HW]
  · isplitl [F]; · iexact F
    iexact HW
  iintro ⟨⟨H4, H9⟩, Hs, HW⟩
  iapply (le_wp_ret _ _ _ _ _)
  isplitl [HW]; · iexact HW
  isplitl [H0]; · iexact H0
  isplitl [H1]; · iexact H1
  isplitl [H3]; · iexact H3
  isplitl [H4]; · iexact H4
  isplitl [HB]; · iexact HB
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [Hs0]; · iexact Hs0
  isplitl [Hs1]; · iexact Hs1
  isplitl [Hs2]; · iexact Hs2
  iexact Hs

end Body

end Cert.Kernel.Hand

end
-- ==== Proof.Blocks.lean ====
module

public import proofs.«01_k».proof.Proof.Base
public import Idealize.ShloMosaic.Lib.ValueIdxCoords

@[expose] public section

noncomputable section

namespace Cert.Base

open Idealize.ShloMosaic Idealize.ShloMosaic.TcCoe Idealize.ShloMosaic.Tactic
open Idealize.SL Idealize.SL.RA Idealize.SL.BI
open scoped Idealize.SL.BI
open Idealize.ShloMosaic.Ring
open Idealize.SL.BI.BIBase Idealize.SL.BI.Laws Idealize.SL.ProofMode Idealize.SL.Sem

/-! ## Overwriting a rectangle -/

section Over
variable {s : Shape} {α : Type}

open Classical in
/-- The array `Y` with the rectangle `r` overwritten by `w`. -/
def ovr (r : Rect s) (Y : s.Idx → α) (w : r.shape.Idx → α) : s.Idx → α := fun y =>
  if h : ∃ x, r.emb x = y then w h.choose else Y y

/-- Inside the rectangle the new values are read, -/
theorem ovr_emb (r : Rect s) (Y : s.Idx → α) (w : r.shape.Idx → α) (x : r.shape.Idx) : ovr r Y w (r.emb x) = w x := by
  unfold ovr
  have h : ∃ x', r.emb x' = r.emb x := ⟨x, rfl⟩
  rw [dif_pos h]
  exact congrArg w (r.emb.injective h.choose_spec)

/-- outside it the old ones. -/
theorem ovr_not (r : Rect s) (Y : s.Idx → α) (w : r.shape.Idx → α) (y : s.Idx) (h : ∀ x, r.emb x ≠ y) : ovr r Y w y = Y y := by
  unfold ovr
  rw [dif_neg (fun ⟨x, hx⟩ => h x hx)]

/-- What a memref reads after a store through one of its rectangles. -/
theorem read_access_write {sig : RefSig} {κ : Kind} {sp : Space} {e : EltTy} {Val : EltTy → Type} (m : Memref sig κ sp s e) (r : Rect s)
    (f : m.view.ty.Contents Val) (w : r.shape.Idx → Val e) :
    m.view.read Val ((m.access r).write Val f w Finset.univ) = ovr r (m.view.read Val f) w := by
  funext y
  by_cases h : ∃ x, r.emb x = y
  · obtain ⟨x, rfl⟩ := h
    rw [ovr_emb]
    exact View.read_slice_write_emb r f w (Finset.mem_univ x)
  · rw [ovr_not _ _ _ _ (fun x hx => h ⟨x, hx⟩)]
    refine View.read_slice_write_of_not_mem r f w Finset.univ fun hm => h ?_
    obtain ⟨x, -, hx⟩ := Finset.mem_map.mp hm
    exact ⟨x, hx⟩

/-- What is loaded through a rectangle of a memref. -/
theorem read_access {sig : RefSig} {κ : Kind} {sp : Space} {e : EltTy} {Val : EltTy → Type} (m : Memref sig κ sp s e) (r : Rect s)
    (f : m.view.ty.Contents Val) : (m.access r).read Val f = fun x => m.view.read Val f (r.emb x) := rfl

/-- A rectangle of the array's own size embeds every index as itself. -/
theorem emb_full {off : Fin s.rank → Nat} (inb : ∀ a, off a + s.size a ≤ s.size a) (y : s.Idx) :
    (Rect.unit off s.size inb).emb y = y := by
  funext a
  apply Fin.ext
  show off a + 1 * (y a).val = (y a).val
  have := inb a
  omega

/-- Overwriting everything leaves the new values. -/
theorem ovr_full {off : Fin s.rank → Nat} (inb : ∀ a, off a + s.size a ≤ s.size a) (Y : s.Idx → α) (w : s.Idx → α) :
    ovr (Rect.unit off s.size inb) Y w = w := by
  funext y
  have h := ovr_emb (Rect.unit off s.size inb) Y w y
  rw [emb_full] at h
  exact h

/-- The coordinates of an element of a rectangle. -/
theorem emb_val {off size : Fin s.rank → Nat} (inb : ∀ a, off a + size a ≤ s.size a) (x : (Rect.unit off size inb).shape.Idx) (a : Fin s.rank) :
    ((Rect.unit off size inb).emb x a).val = off a + (x a).val := by
  show off a + 1 * (x a).val = _
  rw [Nat.one_mul]

/-- Rectangles apart along an axis share no element, -/
theorem rects_disj {off off' size : Fin s.rank → Nat} (inb : ∀ a, off a + size a ≤ s.size a) (inb' : ∀ a, off' a + size a ≤ s.size a)
    (a : Fin s.rank) (h : off a + size a ≤ off' a ∨ off' a + size a ≤ off a) :
    Disjoint (Rect.unit off size inb).set (Rect.unit off' size inb').set := by
  refine Finset.disjoint_left.mpr fun x hx hx' => ?_
  rw [Rect.mem_set_unit] at hx hx'
  have h1 := hx a
  have h2 := hx' a
  omega

/-- and neither do a view's slices at them. -/
theorem slices_disj {sig : RefSig} {κ : Kind} {sp : Space} {e : EltTy} (v : View sig κ sp s e) (r r' : Rect s) (h : Disjoint r.set r'.set) :
    Disjoint (v.slice r).set (v.slice r').set := by
  rw [View.set_slice, View.set_slice]
  exact (Finset.disjoint_map _).mpr h

/-- Rectangles of one size at equal offsets embed alike. -/
theorem emb_congr {off off' size : Fin s.rank → Nat} (h : off = off') (inb : ∀ a, off a + size a ≤ s.size a)
    (inb' : ∀ a, off' a + size a ≤ s.size a) (x : (Rect.unit off size inb).shape.Idx) :
    (Rect.unit off size inb).emb x = (Rect.unit off' size inb').emb x := by
  subst h; rfl

end Over

/-- Iterated updates seen through a map under which each update becomes another. -/
theorem upTo_map {β γ : Type} {n : Nat} (rd : β → γ) (f : Fin n → β → β) (f' : Fin n → γ → γ)
    (h : ∀ i b, rd (f i b) = f' i (rd b)) (b : β) : ∀ i, i ≤ n → rd (upTo f b i) = upTo f' (rd b) i
  | 0, _ => by rw [upTo_zero, upTo_zero]
  | i + 1, hi => by
    have h1 := upTo_succ f b ⟨i, hi⟩
    have h2 := upTo_succ f' (rd b) ⟨i, hi⟩
    rw [h1, h2, h, upTo_map rd f f' h b i (Nat.le_of_succ_le hi)]

/-! ## A buffer cut in disjoint blocks and the rest -/

section Cut
variable {nD : Nat} {τ : Topo} {sig : RefSig} {Val : EltTy → Type}
local notation "𝕄" => MT nD τ sig Unit Val ℕ (Pipeline.UD sig nD τ) ℕ
variable {ℓ : Loc nD τ sig} {n : Nat} (I : Fin n → Finset (Idx ℓ)) (hd : ∀ b b', b ≠ b' → Disjoint (I b) (I b'))
include hd

/-- A buffer held whole is its blocks and the rest, at the same contents, -/
theorem cut (f : Buf Val ℓ) :
    (ℓ ↦{fullShare} f : sProp 𝕄) ⊢ iprop(bigSep Finset.univ (fun b => ℓ ↦[I b]{fullShare} f)
      ∗ ℓ ↦[Finset.univ \ Finset.univ.biUnion I]{fullShare} f) := by
  refine (pointsTo_split_subset (Finset.subset_univ (Finset.univ.biUnion I))).1.trans ?_
  rw [pointsTo_sub_blocks I hd _ rfl]

/-- and is put together from them again; -/
theorem uncut (f : Buf Val ℓ) :
    iprop(bigSep Finset.univ (fun b => ℓ ↦[I b]{fullShare} f)
      ∗ ℓ ↦[Finset.univ \ Finset.univ.biUnion I]{fullShare} f) ⊢ (ℓ ↦{fullShare} f : sProp 𝕄) := by
  rw [← pointsTo_sub_blocks I hd _ rfl]
  exact (pointsTo_split_subset (Finset.subset_univ (Finset.univ.biUnion I))).2

/-- whatever the blocks hold, the buffer put together holds something. -/
theorem uncut_exists (fs : Fin n → Buf Val ℓ) (f : Buf Val ℓ) :
    iprop(bigSep Finset.univ (fun b => ℓ ↦[I b]{fullShare} fs b)
      ∗ ℓ ↦[Finset.univ \ Finset.univ.biUnion I]{fullShare} f) ⊢ (iprop(∃ g, ℓ ↦{fullShare} g) : sProp 𝕄) := by
  iintro ⟨HB, HR⟩
  have hJ : bigSep Finset.univ (fun b => (ℓ ↦[I b]{fullShare} fs b : sProp 𝕄))
      ⊢ iprop(∃ g, ℓ ↦[Finset.univ.biUnion I]{fullShare} g) :=
    BIBase.Entails.trans (bigSep_mono (fun b _ => (exists_intro (Φ := fun f : Buf Val ℓ => (ℓ ↦[I b]{fullShare} f : sProp 𝕄)) (fs b))))
      (pointsTo_sub_blocks_join_exists I hd _ rfl f)
  ihave HJ := hJ $$ HB
  icases HJ with ⟨%g, Hs⟩
  iexists _
  iapply (pointsTo_join_subset (Finset.subset_univ (Finset.univ.biUnion I)))
  isplitl [Hs]; · iexact Hs
  iexact HR

end Cut

end Cert.Base

end
-- ==== Proof.Value.lean ====
module

public import proofs.«01_k».proof.Proof.Body
public import proofs.«01_k».proof.Proof.Blocks

@[expose] public section

set_option synthInstance.maxSize 4096

noncomputable section

namespace Cert.Kernel.Hand

open Cert.Base Cert.Kernel Cert.Kernel.Gen
open Idealize.ShloMosaic Idealize.ShloMosaic.TcCoe

variable {F : FTy → Type} [FloatOps F]

/-! ## The result as a function of the operands

The buffers the kernel works in hold anything at first; what the kernel leaves in the result buffer depends on the
operands alone. Here is that result as a function of the operands, and the proof that it is what the run leaves. -/

section Fun
variable (X : Vec F S48x14336 .fp8e4m3) (C : Vec F S48x112 .i8) (W : Vec F S4096x14336 .fp8e4m3) (WS : Vec F S8x112 .i32)

/-- Tile `g` of the activations. -/
def vX (g : Fin 112) : Vec F S48x128 .fp8e4m3 := fun z => X ((Rect.unit (s := S48x14336) ![0, 128 * g.val] S48x128.size (inbX g)).emb z)
/-- Tile `i` of panel `k` is one of the 112. -/
theorem tile_lt (k : Fin k0_t1_loop.trips) (i : Fin 4) : 4 * k.val + i.val < 112 := by
  have := k.isLt; have h := trips_eq; omega
/-- The column group of tile `i` of panel `k`. -/
def grp (k : Fin k0_t1_loop.trips) (i : Fin 4) : Fin 112 := ⟨4 * k.val + i.val, tile_lt k i⟩
/-- Tile `i` of panel `k` of the scaled activations. -/
def vTile (k : Fin k0_t1_loop.trips) (i : Fin 4) : Vec F S48x128 .bf16 := tileX (scaleX C) (grp k i) (vX X (grp k i))
/-- The scale word of tile `i` of panel `k`, row `r`. -/
def vS (k : Fin k0_t1_loop.trips) (r : Fin 8) (i : Fin 4) : Elt F .i32 :=
  WS ((Rect.unit (s := S8x112) (wsOff k r.val i.val) S1x1.size (inbWs k r i)).emb (Shape.Idx.first (s := S1x1) (by rw [numel1_S1x1]; exact Nat.one_pos)))
/-- A row of strip `j` is a row of the weights. -/
theorem row_lt4096 (j : Fin 16) (z : S256x512.Idx) : 256 * j.val + (z 0).val < 4096 := by
  have h : (z 0).val < 256 := (z 0).isLt
  have := j.isLt; omega
/-- A column of panel `k` is a column of the weights. -/
theorem col_lt14336 (k : Fin k0_t1_loop.trips) (z : S256x512.Idx) : 512 * k.val + (z 1).val < 14336 := by
  have h : (z 1).val < 512 := (z 1).isLt
  have := k.isLt; have h' := trips_eq; omega
/-- Strip `j` of panel `k` of the weights. -/
def vW (k : Fin k0_t1_loop.trips) (j : Fin 16) : Vec F S256x512 .fp8e4m3 := fun z =>
  W (ValueIdx.ix2 ⟨256 * j.val + (z 0).val, row_lt4096 j z⟩ ⟨512 * k.val + (z 1).val, col_lt14336 k z⟩)
/-- Panel `k`'s activations scaled for the output rows whose scale lies `sh` bits up in the words of row `r`. -/
def vBand (k : Fin k0_t1_loop.trips) (r : Fin 8) (sh : BitVec 32) : FVec F S48x512 .bf16 :=
  band sh (vTile X C k 0) (vTile X C k 1) (vTile X C k 2) (vTile X C k 3) (vS WS k r 0) (vS WS k r 1) (vS WS k r 2) (vS WS k r 3)
/-- Panel `k`'s product with strip `j`. -/
def vDot (k : Fin k0_t1_loop.trips) (j : Fin 16) : FVec F S128x256 .f32 :=
  strip2 (vBand X C WS k ⟨j.val / 2, row_lt j⟩ (BitVec.ofNat 32 (16 * (j.val % 2))))
    (vBand X C WS k ⟨j.val / 2, row_lt j⟩ (BitVec.ofNat 32 (16 * (j.val % 2) + 8))) (vW W k j)

/-- Tile `n` of the accumulator. -/
abbrev accR (n : Fin 32) : Rect S48x4096 := Rect.unit (s := S48x4096) ![0, 128 * n.val] S48x128.size (inbA n)

/-- The accumulator with the products `d` of strip `j` added. -/
def vUpd (d : FVec F S128x256 .f32) (j : Fin 16) (A : Vec F S48x4096 .f32) : Vec F S48x4096 .f32 :=
  ovr (accR ⟨2 * j.val + 1, colB_lt j⟩) (ovr (accR ⟨2 * j.val, colA_lt j⟩) A (addA (fun z => A ((accR ⟨2 * j.val, colA_lt j⟩).emb z)) d))
    (addB (fun z => (ovr (accR ⟨2 * j.val, colA_lt j⟩) A (addA (fun z => A ((accR ⟨2 * j.val, colA_lt j⟩).emb z)) d))
      ((accR ⟨2 * j.val + 1, colB_lt j⟩).emb z)) d)
/-- The accumulator at the end. -/
def vAcc : Vec F S48x4096 .f32 :=
  upTo (fun k A => upTo (fun j => vUpd (vDot X C W WS k j) j) A 16) (k0_pay154 (F := F)) 28
/-- The result. -/
def vOut : Vec F S48x4096 .bf16 := k0_pay4 (vAcc X C W WS)
end Fun

/-! ## It is what the run leaves -/

section Reads
variable (c : Dev nD)
  (arg0 : Memref sig .tc .hbm S48x14336 .fp8e4m3) (arg1 : Memref sig .tc .hbm S48x112 .i8)
  (arg2 : Memref sig .tc .hbm S4096x14336 .fp8e4m3) (arg3 : Memref sig .tc .hbm S8x112 .i32)
  (arg4 : Memref sig .tc .hbm S48x4096 .bf16)
  (arg5 : Memref sig .tc .vmem S4096x14464 .fp8e4m3) (arg6 : Memref sig .tc .vmem S48x14336 .bf16)
  (arg7 : Memref sig .tc .vmem S48x14336 .fp8e4m3) (arg8 : Memref sig .tc .vmem S48x4096 .f32)
  (arg9 : Memref sig .tc .vmem S48x4096 .bf16) (arg10 : Memref sig .tc .vmem S48x112 .i8)
  (arg11 : Memref sig .tc .smem S8x112 .i32)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-- Two different tiles of the activations share no element. -/
theorem tiles_apart (g g' : Fin 112) (h : g ≠ g') (x y : S48x128.Idx) :
    (Rect.unit (s := S48x14336) ![0, 128 * g.val] S48x128.size (inbX g)).emb x
      ≠ (Rect.unit (s := S48x14336) ![0, 128 * g'.val] S48x128.size (inbX g')).emb y := by
  intro he
  have h1 := congrArg Fin.val (congrFun he 1)
  rw [emb_val, emb_val] at h1
  have hx : (x 1).val < 128 := (x 1).isLt
  have hy : (y 1).val < 128 := (y 1).isLt
  have h2 : 128 * g.val + (x 1).val = 128 * g'.val + (y 1).val := h1
  exact h (Fin.ext (by omega))

/-- After the first `n` tiles are scaled, each of them reads its scaled activations, whatever was there before. -/
theorem read_updX (xs : FVec F S48x112 .bf16) (x : Buf (Elt F) (arg7.view.loc (c : Thread nD τ))) : ∀ (n : Nat) (hn : n ≤ 112) (g : Fin 112), g.val < n →
    (fun z => arg6.view.read (Elt F) (upTo (updX c arg6 arg7 xs x) f6 n) ((Rect.unit (s := S48x14336) ![0, 128 * g.val] S48x128.size (inbX g)).emb z))
      = tileX xs g (vX (F := F) (arg7.view.read (Elt F) x) g)
  | 0, _, g, h => absurd h (Nat.not_lt_zero _)
  | n + 1, hn, g, h => by
    have e := upTo_succ (updX c arg6 arg7 xs x) f6 ⟨n, hn⟩
    funext z
    rw [e]
    unfold updX
    rw [read_access_write]
    by_cases hg : g = ⟨n, hn⟩
    · subst hg
      rw [ovr_emb]
      rfl
    · rw [ovr_not _ _ _ _ (fun y => tiles_apart ⟨n, hn⟩ g (fun h => hg h.symm) y z)]
      have hlt : g.val < n := by
        have : g.val ≠ n := fun h => hg (Fin.ext h)
        omega
      exact congrFun (read_updX xs x n (Nat.le_of_succ_le hn) g hlt) z

/-- Tile `i` of panel `k` of the scaled activations begins at row 0 and the first column of its group. -/
theorem xwOff_eq (k : Fin k0_t1_loop.trips) (i : Fin 4) : xwOff k i.val = ![0, 128 * (grp k i).val] := by
  unfold xwOff grp
  rw [k0_off4_eq]
  show ![0, 512 * k.val + 128 * i.val] = ![0, 128 * (4 * k.val + i.val)]
  congr 2
  omega

/-- The scaled activations the loop reads. -/
theorem xTile_eq (k : Fin k0_t1_loop.trips) (i : Fin 4) :
    xTile c arg6 (c6 c arg0 arg1 arg6 arg7 arg10 f0 f1 f6 f7 f10) k i
      = vTile (F := F) (arg0.view.read (Elt F) f0) (arg1.view.read (Elt F) f1) k i := by
  unfold xTile c6 vTile
  have h := read_updX c arg6 arg7 f6 (scaleX ((arg10.access (Rect.unit (s := S48x112) ![0, 0] S48x112.size inb_S48x112_S48x112_0_0)).read (Elt F) (c10 c arg1 arg10 f1 f10)))
    (c7 c arg0 arg7 f0 f7) 112 le_rfl (grp k i) (grp k i).isLt
  have h7 : arg7.view.read (Elt F) (c7 c arg0 arg7 f0 f7) = arg0.view.read (Elt F) f0 := View.read_write_univ _ _
  have h10 : (arg10.access (Rect.unit (s := S48x112) ![0, 0] S48x112.size inb_S48x112_S48x112_0_0)).read (Elt F) (c10 c arg1 arg10 f1 f10)
      = arg1.view.read (Elt F) f1 := by
    funext y
    rw [read_access]
    show arg10.view.read (Elt F) _ ((Rect.unit (s := S48x112) ![0, 0] S48x112.size _).emb y) = _
    rw [emb_full (s := S48x112)]
    exact congrFun (View.read_write_univ _ _) y
  rw [h7] at h
  rw [h10] at h ⊢
  rw [← h]
  funext z
  rw [read_access]
  exact congrArg _ (emb_congr (s := S48x14336) (size := S48x128.size) (xwOff_eq k i) _ _ z)

/-- The scale words the loop reads. -/
theorem sWord_eq (k : Fin k0_t1_loop.trips) (r : Fin 8) (i : Fin 4) :
    sWord c arg11 (c11 c arg3 arg11 f3 f11) k r i = vS (F := F) (arg3.view.read (Elt F) f3) k r i := by
  unfold sWord vS
  rw [read_access]
  have h : arg11.view.read (Elt F) (c11 c arg3 arg11 f3 f11) = arg3.view.read (Elt F) f3 := View.read_write_univ _ _
  rw [h]

/-- The weights the loop reads. -/
theorem wStrip_eq (k : Fin k0_t1_loop.trips) (j : Fin 16) :
    wStrip c arg2 arg5 f2 f5 k j = vW (F := F) (arg2.view.read (Elt F) f2) k j := by
  unfold wStrip vW
  rw [read_access]
  funext z
  have hz0 : (z 0).val < 256 := (z 0).isLt
  have hz1 : (z 1).val < 512 := (z 1).isLt
  have hj := j.isLt
  have hin : ∀ a, (![256 * j.val, 512 * k.val] : Fin 2 → Nat) a + S256x512.size a ≤ S4096x14464.size a := by
    rw [← wOff_eq]; exact inbW k j
  have e : (Rect.unit (s := S4096x14464) (wOff k j.val) S256x512.size (inbW k j)).emb z
      = (Rect.unit (s := S4096x14464) ![0, 512 * (pan k).val] S4096x512.size (inbW5 (pan k))).emb
          (ValueIdx.ix2 ⟨256 * j.val + (z 0).val, row_lt4096 j z⟩ ⟨(z 1).val, hz1⟩) := by
    rw [emb_congr (s := S4096x14464) (size := S256x512.size) (wOff_eq k j) (inbW k j) hin z]
    funext a
    apply Fin.ext
    rw [emb_val, emb_val]
    match a with
    | ⟨0, _⟩ => show 256 * j.val + (z 0).val = 0 + (256 * j.val + (z 0).val); omega
    | ⟨1, _⟩ => rfl
  show arg5.view.read (Elt F) (buf5 c arg2 arg5 f2 f5 (pan k)) _ = _
  rw [e]
  unfold buf5
  refine (congrFun (read_access_write arg5 (Rect.unit (s := S4096x14464) ![0, 512 * (pan k).val] S4096x512.size (inbW5 (pan k))) f5 _) _).trans ?_
  rw [ovr_emb]
  show arg2.view.read (Elt F) f2 _ = _
  congr 1
  funext a
  apply Fin.ext
  rw [emb_val]
  match a with
  | ⟨0, _⟩ => show 0 + (256 * j.val + (z 0).val) = 256 * j.val + (z 0).val; omega
  | ⟨1, _⟩ => rfl

/-- The products the loop adds. -/
theorem dot2_eq (k : Fin k0_t1_loop.trips) (j : Fin 16) :
    dot2 c arg2 arg5 arg6 arg11 f2 f5 (c6 c arg0 arg1 arg6 arg7 arg10 f0 f1 f6 f7 f10) (c11 c arg3 arg11 f3 f11) k j
      = vDot (F := F) (arg0.view.read (Elt F) f0) (arg1.view.read (Elt F) f1) (arg2.view.read (Elt F) f2) (arg3.view.read (Elt F) f3) k j := by
  unfold dot2 vDot bandAt vBand
  simp only [xTile_eq, sWord_eq, wStrip_eq]

/-- The accumulator at the end, as read. -/
theorem read_c8' :
    arg8.view.read (Elt F) (c8' c arg0 arg1 arg2 arg3 arg5 arg6 arg7 arg8 arg10 arg11 f0 f1 f2 f3 f5 f6 f7 f8 f10 f11)
      = vAcc (F := F) (arg0.view.read (Elt F) f0) (arg1.view.read (Elt F) f1) (arg2.view.read (Elt F) f2) (arg3.view.read (Elt F) f3) := by
  unfold c8' vAcc
  rw [upTo_map (arg8.view.read (Elt F)) _ (fun k A => upTo (fun j => vUpd (vDot (F := F) (arg0.view.read (Elt F) f0) (arg1.view.read (Elt F) f1) (arg2.view.read (Elt F) f2) (arg3.view.read (Elt F) f3) k j) j) A 16)
    (fun k a => ?_) _ 28 trips_eq.ge]
  · congr 1
    unfold c8
    rw [read_access_write]
    exact ovr_full (s := S48x4096) _ _ _
  · unfold updT
    refine upTo_map (arg8.view.read (Elt F)) _ _ (fun j a => ?_) a 16 le_rfl
    unfold updA vUpd
    simp only [dot2_eq, read_access_write, read_access]
    rfl

/-- The result, as read. -/
theorem read_c4 :
    arg4.view.read (Elt F) (c4 c arg0 arg1 arg2 arg3 arg4 arg5 arg6 arg7 arg8 arg9 arg10 arg11 f0 f1 f2 f3 f4 f5 f6 f7 f8 f9 f10 f11)
      = vOut (F := F) (arg0.view.read (Elt F) f0) (arg1.view.read (Elt F) f1) (arg2.view.read (Elt F) f2) (arg3.view.read (Elt F) f3) := by
  unfold c4 c9 vOut
  rw [View.read_write_univ, read_access_write, read_access]
  refine (ovr_full (s := S48x4096) _ _ _).trans ?_
  rw [read_c8']
  congr 1
  funext y
  show vAcc _ _ _ _ ((Rect.unit (s := S48x4096) ![0, 0] S48x4096.size _).emb y) = _
  rw [emb_full (s := S48x4096)]

end Reads

end Cert.Kernel.Hand

end
-- ==== Proof.Run.lean ====
module

public import proofs.«01_k».proof.Proof.Value
public import proofs.«01_k».proof.Proof.Gen.Kernel.Frame
public import Idealize.ShloMosaic.Lib.Pipeline.FrameValue

@[expose] public section

set_option synthInstance.maxSize 4096

noncomputable section

namespace Cert.Kernel.Hand

open Cert.Base Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

attribute [local irreducible] seqFin

/-! ## The run of the body over whole buffers -/

section Whole
variable (c : Dev nD)
  (arg0 : Memref sig .tc .hbm S48x14336 .fp8e4m3) (harg0 : arg0.IsWhole)
  (arg1 : Memref sig .tc .hbm S48x112 .i8) (harg1 : arg1.IsWhole)
  (arg2 : Memref sig .tc .hbm S4096x14336 .fp8e4m3) (harg2 : arg2.IsWhole)
  (arg3 : Memref sig .tc .hbm S8x112 .i32) (harg3 : arg3.IsWhole)
  (arg4 : Memref sig .tc .hbm S48x4096 .bf16) (harg4 : arg4.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg9 : Memref sig .tc .vmem S48x4096 .bf16) (harg9 : arg9.IsWhole)
  (arg10 : Memref sig .tc .vmem S48x112 .i8) (harg10 : arg10.IsWhole)
  (arg11 : Memref sig .tc .smem S8x112 .i32) (harg11 : arg11.IsWhole)
  (arg12 : DmaSems sig S3) (arg13 : DmaSems sig S28) (arg14 : DmaSems sig S_)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-- The elements of panel `p` where the weights lie. -/
abbrev set2 (p : Fin 28) : Finset (Idx (arg2.view.loc (c : Thread nD τ))) := (src2 arg2 p).view.set
/-- The elements of panel `p` where the weights are copied to. -/
abbrev set5 (p : Fin 28) : Finset (Idx (arg5.view.loc (c : Thread nD τ))) := (dst5 arg5 p).view.set

/-- Different panels lie apart along the second axis. -/
theorem panels_apart (p p' : Fin 28) (h : p ≠ p') :
    (![0, 512 * p.val] : Fin 2 → Nat) 1 + S4096x512.size 1 ≤ (![0, 512 * p'.val] : Fin 2 → Nat) 1
      ∨ (![0, 512 * p'.val] : Fin 2 → Nat) 1 + S4096x512.size 1 ≤ (![0, 512 * p.val] : Fin 2 → Nat) 1 := by
  have h' : p.val ≠ p'.val := fun e => h (Fin.ext e)
  show 512 * p.val + 512 ≤ 512 * p'.val ∨ 512 * p'.val + 512 ≤ 512 * p.val
  omega

/-- Different panels of the weights share no element, -/
theorem set2_disj (p p' : Fin 28) (h : p ≠ p') : Disjoint (set2 c arg2 p) (set2 c arg2 p') :=
  slices_disj arg2.view _ _ (rects_disj (s := S4096x14336) (inbW2 p) (inbW2 p') 1 (panels_apart p p' h))

/-- nor do the panels of the buffer they are copied to. -/
theorem set5_disj (p p' : Fin 28) (h : p ≠ p') : Disjoint (set5 c arg5 p) (set5 c arg5 p') :=
  slices_disj arg5.view _ _ (rects_disj (s := S4096x14464) (inbW5 p) (inbW5 p') 1 (panels_apart p p' h))

/-- The panels before their copies, from the parts. -/
theorem In_all :
    iprop(bigSep Finset.univ (fun p => (arg2.view.loc (c : Thread nD τ)) ↦[set2 c arg2 p]{fullShare} f2)
        ∗ bigSep Finset.univ (fun p => (arg5.view.loc (c : Thread nD τ)) ↦[set5 c arg5 p]{fullShare} f5)
        ∗ bigSep Finset.univ (fun p => semVal ((c : Thread nD τ), .dma (semW arg13 p)) 0))
      ⊢ bigSep Finset.univ (In c arg2 arg5 arg13 f2 f5) := by
  rw [← bigSep_sep', ← bigSep_sep']
  refine bigSep_mono fun p _ => ?_
  unfold In
  exact Idealize.SL.BI.Entails.refl _

/-- The panels after their copies, in parts. -/
theorem Dn_all :
    bigSep Finset.univ (Dn c arg2 arg5 arg13 f2 f5)
      ⊢ iprop((bigSep Finset.univ (fun p => (arg5.view.loc (c : Thread nD τ)) ↦[set5 c arg5 p]{fullShare} buf5 c arg2 arg5 f2 f5 p)
        ∗ bigSep Finset.univ (fun p => (arg2.view.loc (c : Thread nD τ)) ↦[set2 c arg2 p]{fullShare} f2))
        ∗ bigSep Finset.univ (fun p => semVal ((c : Thread nD τ), .dma (semW arg13 p)) 0)) := by
  rw [← bigSep_sep', ← bigSep_sep']
  refine bigSep_mono fun p _ => ?_
  unfold Dn dl
  exact Idealize.SL.BI.Entails.refl _

/-- The body's run, every buffer held whole. -/
theorem wp_whole :
    iprop(idle (Val := Elt F) c ∗ held c arg0 f0 ∗ held c arg1 f1 ∗ held c arg2 f2 ∗ held c arg3 f3 ∗ held c arg4 f4
        ∗ held c arg5 f5 ∗ held c arg6 f6 ∗ held c arg7 f7 ∗ held c arg8 f8 ∗ held c arg9 f9 ∗ held c arg10 f10 ∗ held c arg11 f11
        ∗ bigSep Finset.univ (fun p => semVal ((c : Thread nD τ), .dma (semW arg13 p)) 0)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)
      ⊢ wpk c (body arg0 harg0 arg1 harg1 arg2 harg2 arg3 harg3 arg4 harg4 arg5 harg5 arg6 harg6 arg7 harg7 arg8 harg8 arg9 harg9 arg10 harg10 arg11 harg11 arg12 arg13 arg14)
        (fun _ => iprop(idle (Val := Elt F) c ∗ held c arg0 f0 ∗ held c arg1 f1 ∗ held c arg2 f2 ∗ held c arg3 f3
        ∗ held c arg4 (c4 c arg0 arg1 arg2 arg3 arg4 arg5 arg6 arg7 arg8 arg9 arg10 arg11 f0 f1 f2 f3 f4 f5 f6 f7 f8 f9 f10 f11)
        ∗ (∃ f, held c arg5 f) ∗ (∃ f, held c arg6 f) ∗ (∃ f, held c arg7 f) ∗ (∃ f, held c arg8 f) ∗ (∃ f, held c arg9 f) ∗ (∃ f, held c arg10 f) ∗ (∃ f, held c arg11 f)
        ∗ bigSep Finset.univ (fun p => semVal ((c : Thread nD τ), .dma (semW arg13 p)) 0)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)) := by
  iintro ⟨HW, H0, H1, H2, H3, H4, H5, H6, H7, H8, H9, H10, H11, HB, Hs0, Hs1, Hs2, Hs⟩
  ihave H2 := (cut (set2 c arg2) (set2_disj c arg2) f2) $$ H2
  icases H2 with ⟨H2, R2⟩
  ihave H5 := (cut (set5 c arg5) (set5_disj c arg5) f5) $$ H5
  icases H5 with ⟨H5, R5⟩
  iapply (wp_wand _ _ _) $$ [HW H0 H1 H2 H3 H4 H5 H6 H7 H8 H9 H10 H11 HB Hs0 Hs1 Hs2 Hs]
  · iapply (wp_body c arg0 harg0 arg1 harg1 arg2 harg2 arg3 harg3 arg4 harg4 arg5 harg5 arg6 harg6 arg7 harg7 arg8 harg8 arg9 harg9 arg10 harg10 arg11 harg11 arg12 arg13 arg14 f0 f1 f2 f3 f4 f5 f6 f7 f8 f9 f10 f11)
      $$ [HW H0 H1 H2 H3 H4 H5 H6 H7 H8 H9 H10 H11 HB Hs0 Hs1 Hs2 Hs]
    isplitl [HW]; · iexact HW
    isplitl [H0]; · iexact H0
    isplitl [H1]; · iexact H1
    isplitl [H3]; · iexact H3
    isplitl [H4]; · iexact H4
    isplitl [H2 H5 HB]
    · iapply (In_all c arg2 arg5 arg13 f2 f5) $$ [H2 H5 HB]
      isplitl [H2]; · iexact H2
      isplitl [H5]; · iexact H5
      iexact HB
    isplitl [H6]; · iexact H6
    isplitl [H7]; · iexact H7
    isplitl [H8]; · iexact H8
    isplitl [H9]; · iexact H9
    isplitl [H10]; · iexact H10
    isplitl [H11]; · iexact H11
    isplitl [Hs0]; · iexact Hs0
    isplitl [Hs1]; · iexact Hs1
    isplitl [Hs2]; · iexact Hs2
    iexact Hs
  iintro %u ⟨HW, H0, H1, H3, H4, HB, H6, H7, H8, H9, H10, H11, Hs0, Hs1, Hs2, Hs⟩
  ihave HB := (Dn_all c arg2 arg5 arg13 f2 f5) $$ HB
  icases HB with ⟨⟨H5, H2⟩, HB⟩
  ihave H2 := (uncut (set2 c arg2) (set2_disj c arg2) f2) $$ [H2 R2]
  · isplitl [H2]; · iexact H2
    iexact R2
  ihave H5 := (uncut_exists (set5 c arg5) (set5_disj c arg5) (buf5 c arg2 arg5 f2 f5) f5) $$ [H5 R5]
  · isplitl [H5]; · iexact H5
    iexact R5
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HB]; · iexact HB
  isplitl [Hs0]; · iexact Hs0
  isplitl [Hs1]; · iexact Hs1
  isplitl [Hs2]; · iexact Hs2
  iexact Hs

end Whole

/-! ## The program's run -/

variable (m : (ℓ : Loc nD τ sig) → Buf (Elt F) ℓ) (ρ : Dev nD → PrngReg)

set_option maxHeartbeats 800000 in
/-- The program up to the kernel: the host operations, then the kernel. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The semaphores the kernel uses. -/
abbrev osem0 : Fin 4 ⊕ Fin 28 → SemLoc sig :=
  Sum.elim (![.dma (semA cc0_scratch7 0 inb_S3_S1_0), .dma (semA cc0_scratch7 1 inb_S3_S1_1), .dma (semA cc0_scratch7 2 inb_S3_S1_2), .dma cc0_scratch9.sem] : Fin 4 → SemLoc sig)
    (fun p => .dma (semW cc0_scratch8 p))
/-- The kernel's semaphores are distinct and none of them is the pipeline's. -/
theorem ownSemFacts0 : Pipeline.OwnSemFacts (cfg0.spec) osem0 := by decide +kernel
/-- The kernel's semaphores at zero, written out: three of the small copies, the output's, and one for each panel. -/
theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), .dma (semA cc0_scratch7 0 inb_S3_S1_0)) 0 ∗ semVal ((c : Thread nD τ), .dma (semA cc0_scratch7 1 inb_S3_S1_1)) 0
        ∗ semVal ((c : Thread nD τ), .dma (semA cc0_scratch7 2 inb_S3_S1_2)) 0 ∗ semVal ((c : Thread nD τ), .dma cc0_scratch9.sem) 0)
        ∗ bigSep Finset.univ (fun p => semVal ((c : Thread nD τ), .dma (semW cc0_scratch8 p)) 0)) := by
  unfold Pipeline.ownSems0
  rw [bigSep_univ_sum, BI.bigSep_eq_bigSepL_of_eq [(0 : Fin 4), 1, 2, 3] (by decide) (by decide)]
  rfl

/-- The operands the kernel reads. -/
def H0 : Finset (Ref sig .tc) := {main_v0, main_v1, main_arg2, main_v4}
/-- The result the kernel writes. -/
def R0 : Finset (Ref sig .tc) := {main_v5}
/-- The operands are among the buffers that no window stages. -/
theorem H0_sub : H0 ⊆ Pipeline.restRefs sig (cfg0.spec) := by decide
/-- The result is among them too, and is no operand. -/
theorem R0_sub : R0 ⊆ Pipeline.restRefs sig (cfg0.spec) \ H0 := by decide

/-- The result buffer's contents at the end. -/
def outV (c : Dev nD) : Buf (Elt F) ((c : Thread nD τ).loc main_v5) :=
  vOut (F := F) (V m c main_v0) (V m c main_v1) (V m c main_arg2) (V m c main_v4)
/-- The buffers' contents at the end. -/
def G (c : Dev nD) : (b : Ref sig .tc) → Buf (Elt F) ((c : Thread nD τ).loc b) :=
  Function.update (V m c) main_v5 (outV m c)
/-- At the end the result buffer holds the function of the operands. -/
theorem G_main_v5 (c : Dev nD) : G m c main_v5 = outV m c := Function.update_self _ _ _

/-- The operands' ownership, written out. -/
theorem hbmPts0_eq (c : Dev nD) :
    (bigSep H0 (fun b => ((c : Thread nD τ).loc b) ↦{fullShare} V m c b) : sProp 𝕄)
      = iprop(held c (Memref.whole main_v0) (V m c main_v0) ∗ held c (Memref.whole main_v1) (V m c main_v1)
        ∗ held c (Memref.whole main_arg2) (V m c main_arg2) ∗ held c (Memref.whole main_v4) (V m c main_v4)) := by
  rw [BI.bigSep_eq_bigSepL_of_eq [main_v0, main_v1, main_arg2, main_v4] (by decide) (by decide)]; rfl

/-- The result's ownership, written out. -/
theorem routed0_eq (c : Dev nD) (W : (b : Ref sig .tc) → Buf (Elt F) ((c : Thread nD τ).loc b)) :
    (Pipeline.routed R0 c W : sProp 𝕄) = held c (Memref.whole main_v5) (W main_v5) := by
  unfold Pipeline.routed
  rw [BI.bigSep_eq_bigSepL_of_eq [main_v5] (by decide) (by decide)]; rfl

/-- The proof data: the kernel stages no window; its result is `V`'s before it runs and `G`'s after. -/
def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRG osem0 (cfg0.spec) H0 R0 (V m) (if t.val = 0 then V m else G m) c
  q _ := fullShare
  owed _ := 0

/-- The proof data take the windows' arrays from the memory before the kernel. -/
theorem A_eq (c : Dev nD) (w : Fin cfg0.W) : (dats m 0 c).A w = V m c (Pipeline.arrRef (cfg0.spec) w) := by
  dsimp only [dats]

/-- What the run leaves in the result buffer, whatever the scratch buffers held. -/
theorem c4_eq (c : Dev nD)
  (f4 : Buf (Elt F) ((Memref.whole main_v5 : Memref sig .tc .hbm S48x4096 .bf16).view.loc (c : Thread nD τ)))
  (f5 : Buf (Elt F) ((Memref.whole cc0_scratch0 : Memref sig .tc .vmem S4096x14464 .fp8e4m3).view.loc (c : Thread nD τ)))
  (f6 : Buf (Elt F) ((Memref.whole cc0_scratch1 : Memref sig .tc .vmem S48x14336 .bf16).view.loc (c : Thread nD τ)))
  (f7 : Buf (Elt F) ((Memref.whole cc0_scratch2 : Memref sig .tc .vmem S48x14336 .fp8e4m3).view.loc (c : Thread nD τ)))
  (f8 : Buf (Elt F) ((Memref.whole cc0_scratch3 : Memref sig .tc .vmem S48x4096 .f32).view.loc (c : Thread nD τ)))
  (f9 : Buf (Elt F) ((Memref.whole cc0_scratch4 : Memref sig .tc .vmem S48x4096 .bf16).view.loc (c : Thread nD τ)))
  (f10 : Buf (Elt F) ((Memref.whole cc0_scratch5 : Memref sig .tc .vmem S48x112 .i8).view.loc (c : Thread nD τ)))
  (f11 : Buf (Elt F) ((Memref.whole cc0_scratch6 : Memref sig .tc .smem S8x112 .i32).view.loc (c : Thread nD τ))) :
    c4 (F := F) c (Memref.whole main_v0) (Memref.whole main_v1) (Memref.whole main_arg2) (Memref.whole main_v4) (Memref.whole main_v5)
      (Memref.whole cc0_scratch0) (Memref.whole cc0_scratch1) (Memref.whole cc0_scratch2) (Memref.whole cc0_scratch3) (Memref.whole cc0_scratch4)
      (Memref.whole cc0_scratch5) (Memref.whole cc0_scratch6) (V m c main_v0) (V m c main_v1) (V m c main_arg2) (V m c main_v4)
      f4 f5 f6 f7 f8 f9 f10 f11 = outV m c :=
  read_c4 (F := F) c (Memref.whole main_v0) (Memref.whole main_v1) (Memref.whole main_arg2) (Memref.whole main_v4) (Memref.whole main_v5)
      (Memref.whole cc0_scratch0) (Memref.whole cc0_scratch1) (Memref.whole cc0_scratch2) (Memref.whole cc0_scratch3) (Memref.whole cc0_scratch4)
      (Memref.whole cc0_scratch5) (Memref.whole cc0_scratch6) (V m c main_v0) (V m c main_v1) (V m c main_arg2) (V m c main_v4)
      f4 f5 f6 f7 f8 f9 f10 f11

set_option maxHeartbeats 1600000 in
/-- The one step of the kernel, from its buffers and semaphores as it finds them, leaves the result at the function of the operands and the rest as it was. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  have ht : t.val = 0 := by rw [fin_N0 t]; rfl
  rw [show (dats m 0 c).Φ t.castSucc = Pipeline.ΦDRG osem0 (cfg0.spec) H0 R0 (V m) (V m) c from by
    unfold dats; exact congrArg (fun W => Pipeline.ΦDRG osem0 (cfg0.spec) H0 R0 (V m) W c) (if_pos ht)]
  rw [show (dats m 0 c).Φ t.succ = Pipeline.ΦDRG osem0 (cfg0.spec) H0 R0 (V m) (G m) c from by
    unfold dats; exact congrArg (fun W => Pipeline.ΦDRG osem0 (cfg0.spec) H0 R0 (V m) W c) (if_neg (Nat.succ_ne_zero _))]
  rw [Pipeline.ΦDRG_eq, Pipeline.ΦDRG_eq, scopedRest0_eq, ownSems00_eq, hbmPts0_eq, routed0_eq, routed0_eq, G_main_v5]
  unfold Dat.owesAt Pipeline.owesWithin
  rw [show (dats m 0 c).owed t.castSucc = 0 from rfl, show (dats m 0 c).owed t.succ = 0 from rfl]
  unfold bodyAt0
  rw [body_eq]
  iintro ⟨⟨⟨⟨%g5, H5⟩, ⟨%g6, H6⟩, ⟨%g7, H7⟩, ⟨%g8, H8⟩, ⟨%g9, H9⟩, ⟨%g10, H10⟩, ⟨%g11, H11⟩⟩, Hg, ⟨⟨Hs0, Hs1, Hs2, Hs⟩, HB⟩, ⟨H0, H1, H2, H3⟩, H4⟩, ⟨%W, -, HW⟩⟩
  iapply (wp_wand _ _ _) $$ [HW H0 H1 H2 H3 H4 H5 H6 H7 H8 H9 H10 H11 HB Hs0 Hs1 Hs2 Hs]
  · iapply (wp_whole c (Memref.whole main_v0) (Memref.isWhole_whole _) (Memref.whole main_v1) (Memref.isWhole_whole _) (Memref.whole main_arg2) (Memref.isWhole_whole _) (Memref.whole main_v4) (Memref.isWhole_whole _) (Memref.whole main_v5) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
      cc0_scratch7 cc0_scratch8 cc0_scratch9 (V m c main_v0) (V m c main_v1) (V m c main_arg2) (V m c main_v4) (V m c main_v5) g5 g6 g7 g8 g9 g10 g11)
      $$ [HW H0 H1 H2 H3 H4 H5 H6 H7 H8 H9 H10 H11 HB Hs0 Hs1 Hs2 Hs]
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HB]; · iexact HB
    isplitl [Hs0]; · iexact Hs0
    isplitl [Hs1]; · iexact Hs1
    isplitl [Hs2]; · iexact Hs2
    iexact Hs
  iintro %u H
  rw [c4_eq m c]
  icases H with ⟨⟨%W', HW⟩, H0, H1, H2, H3, H4, H5, H6, H7, H8, H9, H10, H11, HB, Hs0, Hs1, Hs2, Hs⟩
  isplitr [HW]
  · isplitl [H5 H6 H7 H8 H9 H10 H11]
    · isplitl [H5]; · iexact H5
      isplitl [H6]; · iexact H6
      isplitl [H7]; · iexact H7
      isplitl [H8]; · iexact H8
      isplitl [H9]; · iexact H9
      isplitl [H10]; · iexact H10
      iexact H11
    isplitl [Hg]; · iexact Hg
    isplitl [HB Hs0 Hs1 Hs2 Hs]
    · isplitl [Hs0 Hs1 Hs2 Hs]
      · isplitl [Hs0]; · iexact Hs0
        isplitl [Hs1]; · iexact Hs1
        isplitl [Hs2]; · iexact Hs2
        iexact Hs
      iexact HB
    isplitl [H0 H1 H2 H3]
    · isplitl [H0]; · iexact H0
      isplitl [H1]; · iexact H1
      isplitl [H2]; · iexact H2
      iexact H3
    iexact H4
  iexists W'
  isplitr
  · ipureintro; exact fun _ _ => Or.inl trivial
  iexact HW

/-- The procedure that a step calls is the kernel's body. -/
theorem defs₀_row (t : Fin cfg0.N) :
    defs₀ (F := F) .tc cfg0.body (cfg0.bodyArgs t (cfg0.slots t)) = bodyAt0 t := by
  unfold defs₀; rw [Defs.onTc_tc]

/-- The kernel's body meets its specification at every step. -/
theorem body_obligation (c : Dev nD) : BodyObligation (dats (F := F) m 0 c) (defs₀ (F := F)) Variants.none () Set.univ := fun t => by
  rw [defs₀_row]
  have e : ∀ Φ : Fin cfg0.W → sProp 𝕄, bigSep Finset.univ Φ = iprop(emp) := fun Φ => by
    rw [show (Finset.univ : Finset (Fin cfg0.W)) = ∅ from rfl, bigSep_empty]; rfl
  rw [e, e]
  refine triple_restated (sound_body m c t) rfl ?_ ?_
  · iintro ⟨H, Hw, -⟩
    isplitl [H]; · iexact H
    iexact Hw
  · intro _
    iintro ⟨H, Hw⟩
    isplitl [H]; · iexact H
    isplitl [Hw]; · iexact Hw
    iempintro

set_option backward.isDefEq.respectTransparency.types false in
/-- The program runs; at the end its result is `G`'s, everything else is as the kernel found it, every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- The program leaves its arguments as they were, its result at the function of the operands, and every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = outV m c)
      ∧ r.2.sem = fun _ => 0) :=
  (θ_run defs _ _).mono (fun _ h => ⟨fun c => ⟨⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩,
      (h.1.written c (by decide : main_v5 ∈ R0)).trans (G_main_v5 m c)⟩, h.2⟩) (run_main m ρ)

end Cert.Kernel.Hand

end
-- ==== Proof.RefoldI.lean ====
module

public import proofs.«01_k».proof.Proof.Gen.KernelIdeal.Skeleton
public import Idealize.ShloMosaic.Lib.Tactic

@[expose] public section

set_option synthInstance.maxSize 4096

noncomputable section

namespace Cert.KernelIdeal.Hand

open Idealize.ShloMosaic Idealize.SL.Sem Cert.KernelIdeal.Gen

variable {F : FTy → Type} [FloatOps F]

/-- Programs of the kernel that return nothing. -/
abbrev PK (F : FTy → Type) := Prog (TpuEff nD τ sig (Elt F) Λ₀ .tc)

/-- Run `f 0`, `f 1`, …, `f (n - 1)` in this order. -/
def seqFin : (n : Nat) → (Fin n → PK F PUnit) → PK F PUnit
  | 0, _ => pure ⟨⟩
  | n + 1, f => f 0 >>= fun _ => seqFin n (fun i => f i.succ)

/-! ## Side conditions of the accesses, uniformly in the index -/

/-- Panel `p` of the weights lies in the scratch buffer. -/
theorem inbW5 : ∀ p : Fin 28, ∀ a, (![0, 512 * p.val] : Fin 2 → Nat) a + S4096x512.size a ≤ S4096x14464.size a := by decide +kernel
/-- Panel `p` of the weights lies in the argument. -/
theorem inbW2 : ∀ p : Fin 28, ∀ a, (![0, 512 * p.val] : Fin 2 → Nat) a + S4096x512.size a ≤ S4096x14336.size a := by decide +kernel
/-- Semaphore `p` is one of the 28. -/
theorem inbSem : ∀ p : Fin 28, ∀ a, (![p.val] : Fin 1 → Nat) a + S1.size a ≤ S28.size a := by decide +kernel
/-- Tile `g` of the activations lies in its buffer. -/
theorem inbX : ∀ g : Fin 112, ∀ a, (![0, 128 * g.val] : Fin 2 → Nat) a + S48x128.size a ≤ S48x14336.size a := by decide +kernel
/-- Block `n` of the outputs lies in the accumulator. -/
theorem inbA : ∀ n : Fin 32, ∀ a, (![0, 128 * n.val] : Fin 2 → Nat) a + S48x128.size a ≤ S48x4096.size a := by decide +kernel
/-- Column `g` of the activation scales is a slice of them. -/
theorem slCol : ∀ g : Fin 112, S48x112.Slices (![0, g.val] : Fin 2 → Nat) S48x1 := by decide +kernel
/-- Panel `p` of the scratch buffer is made of whole words. -/
theorem wordsW5 : ∀ p : Fin 28, (Rect.unit (s := S4096x14464) ![0, 512 * p.val] S4096x512.size (inbW5 p)).WholeWords (EltTy.packing .fp8e4m3) := by decide +kernel
/-- Panel `p` of the argument is made of whole words. -/
theorem wordsW2 : ∀ p : Fin 28, (Rect.unit (s := S4096x14336) ![0, 512 * p.val] S4096x512.size (inbW2 p)).WholeWords (EltTy.packing .fp8e4m3) := by decide +kernel
/-- Tile `g` of the scaled activations is made of whole packed rows. -/
theorem packedX : ∀ g : Fin 112, (Rect.unit (s := S48x14336) ![0, 128 * g.val] S48x128.size (inbX g)).PackedRows (EltTy.packing .bf16) := by decide +kernel

/-- Where strip `j` of panel `k` of the weights is read. -/
def wOff (k : Fin k0_t1_loop.trips) (j : Nat) : Fin 2 → Nat :=
  ![256 * j, (Scalar.indexCast (Scalar.muli (Scf.iv 0#32 1#32 k) 512#32)).toNat]
/-- Where the scale word of tile `i` of panel `k`, row `r`, is read. -/
def wsOff (k : Fin k0_t1_loop.trips) (r i : Nat) : Fin 2 → Nat :=
  ![r, (Scalar.indexCast (Scalar.addi (Scalar.muli (Scf.iv 0#32 1#32 k) 4#32) (BitVec.ofNat 32 i))).toNat]
/-- Where tile `i` of panel `k` of the scaled activations is read. -/
def xwOff (k : Fin k0_t1_loop.trips) (i : Nat) : Fin 2 → Nat := k0_off4 k (BitVec.ofNat 32 (128 * i))
/-- Strip `j` of panel `k` of the weights lies in the scratch buffer. -/
theorem inbW : ∀ k : Fin k0_t1_loop.trips, ∀ j : Fin 16, ∀ a, (wOff k j.val) a + S256x512.size a ≤ S4096x14464.size a := by decide +kernel
/-- The scale word of tile `i` of panel `k`, row `r`, lies in the array of words. -/
theorem inbWs : ∀ k : Fin k0_t1_loop.trips, ∀ r : Fin 8, ∀ i : Fin 4, ∀ a, (wsOff k r.val i.val) a + S1x1.size a ≤ S8x112.size a := by decide +kernel
/-- Tile `i` of panel `k` of the scaled activations lies in its buffer. -/
theorem inbXk : ∀ k : Fin k0_t1_loop.trips, ∀ i : Fin 4, ∀ a, (xwOff k i.val) a + S48x128.size a ≤ S48x14336.size a := by decide +kernel
/-- The scale words of strip `j` lie in one of 8 rows. -/
theorem row_lt (j : Fin 16) : j.val / 2 < 8 := by omega
/-- The first output block of strip `j` is one of 32. -/
theorem colA_lt (j : Fin 16) : 2 * j.val < 32 := by omega
/-- The second output block of strip `j` is one of 32. -/
theorem colB_lt (j : Fin 16) : 2 * j.val + 1 < 32 := by omega

/-! ## The values the kernel computes -/

/-- The activation scales as bf16 vectors, decoded from their codes. -/
def scaleX (v : Vec F S48x112 .i8) : FVec F S48x112 .bf16 :=
  truncf .bf16 (bitcastToFloat (F := F) .f32 (shli (extui 32 v natLt_8_32) (broadcast S48x112 23#32))) bitsLt_bf16_f32

/-- The scaled activation tile of column group `g`. -/
def tileX (xs : FVec F S48x112 .bf16) (g : Fin 112) (x : Vec F S48x128 .fp8e4m3) : FVec F S48x128 .bf16 :=
  shapeCast S48x128 (mulf (extf .bf16 x bitsLt_fp8e4m3_bf16)
    (broadcastTo S48x128 (shapeCast S48x1 (extractStridedSlice S48x1 ![0, g.val] xs (slCol g)) shapeCasts_S48x1_S48x1)
      broadcasts_S48x1_S48x128)) shapeCasts_S48x128_S48x128

/-- A weight scale's code, taken from byte `sh / 8` of its word, as a tile of equal bf16 values. -/
def scaleW (sh : BitVec 32) (s : Elt F .i32) : FVec F S48x128 .bf16 :=
  have b : FVec F S16x128 .bf16 := bitcastToFloat .bf16 (bitcast S16x128 16
    (broadcast S8x128 (Scalar.ori (Scalar.shli (Scalar.andi (Scalar.shrui s sh) 255#32) 23#32)
      (Scalar.shli (Scalar.andi (Scalar.shrui s sh) 255#32) 7#32)) : IVec S8x128 32) bitcasts_S8x128_w32_S16x128_w16)
  concatenate S48x128 0 [⟨S16x128, b⟩, ⟨S16x128, b⟩, ⟨S16x128, b⟩] concatenates_S16x128_S16x128_S16x128_S48x128_d0

/-- Four tiles, each scaled by its weight scale, side by side. -/
def band (sh : BitVec 32) (x0 x1 x2 x3 : Vec F S48x128 .bf16) (s0 s1 s2 s3 : Elt F .i32) : FVec F S48x512 .bf16 :=
  concatenate S48x512 1 [⟨S48x128, mulf x0 (scaleW sh s0)⟩, ⟨S48x128, mulf x1 (scaleW sh s1)⟩,
    ⟨S48x128, mulf x2 (scaleW sh s2)⟩, ⟨S48x128, mulf x3 (scaleW sh s3)⟩] concatenates_S48x128_S48x128_S48x128_S48x128_S48x512_d1

/-- The product of two bands, over 32 rows of zeros, with a strip of 256 weight rows. -/
def strip2 (b0 b1 : FVec F S48x512 .bf16) (w : Vec F S256x512 .fp8e4m3) : FVec F S128x256 .f32 :=
  matmul dot_S128x512_S256x512_S128x256_1_1_0_0_n_n none
    (concatenate S128x512 0 [⟨S48x512, b0⟩, ⟨S48x512, b1⟩,
      ⟨S32x512, (broadcast S32x512 (Scalar.ofBits .bf16 0x0000#16 : F .bf16) : FVec F S32x512 .bf16)⟩] concatenates_S48x512_S48x512_S32x512_S128x512_d0)
    w (constant S128x256 .f32 0x00000000#32)

/-- The accumulator's tile with the first band's product added. -/
def addA (a : Vec F S48x128 .f32) (d : FVec F S128x256 .f32) : FVec F S48x128 .f32 :=
  shapeCast S48x128 (addf a (extractStridedSlice S48x128 ![0, 0] d slices_S128x256_o0_0_S48x128)) shapeCasts_S48x128_S48x128

/-- The accumulator's tile with the second band's product added. -/
def addB (a : Vec F S48x128 .f32) (d : FVec F S128x256 .f32) : FVec F S48x128 .f32 :=
  shapeCast S48x128 (addf a (extractStridedSlice S48x128 ![48, 128] d slices_S128x256_o48_128_S48x128)) shapeCasts_S48x128_S48x128

/-! ## The steps -/

section Steps
variable (arg2 : Memref sig .tc .hbm S4096x14336 .fp8e4m3) (harg2 : arg2.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg11 : Memref sig .tc .smem S8x112 .i32) (harg11 : arg11.IsWhole)
  (arg13 : DmaSems sig S28)

/-- Start the copy of weight panel `p`. -/
def startW (p : Fin 28) : PK F PUnit :=
  Prog.lift (.enqueueDma (arg2.slice (Rect.unit (s := S4096x14336) ![0, 512 * p.val] S4096x512.size (inbW2 p)) (fun _ => rfl))
    (.here (arg5.slice (Rect.unit (s := S4096x14464) ![0, 512 * p.val] S4096x512.size (inbW5 p)) (fun _ => rfl)))
    (.dma ((arg13.slice (Rect.unit (s := S28) ![p.val] S1.size (inbSem p))).squeeze S_ squeezes_S1_S_).sem)
    (harg2.wordExact_slice rfl _ (wordsW2 p)) (harg5.wordExact_slice rfl _ (wordsW5 p)) ⟨Or.inl rfl, trivial⟩)

/-- Scale the activation tile of column group `g`. -/
def stepX (xs : FVec F S48x112 .bf16) (g : Fin 112) : PK F PUnit := do
  let x : Vec F S48x128 .fp8e4m3 ← Prog.lift (.load arg7 (Rect.unit (s := S48x14336) ![0, 128 * g.val] S48x128.size (inbX g)).toLoadRect (View.loadsAt_vmem h_S48x128))
  let _ : Vec F S48x128 .bf16 ← Prog.lift (.load arg6 (Rect.unit (s := S48x14336) ![0, 128 * g.val] S48x128.size (inbX g)).toLoadRect (View.loadsAt_vmem h_S48x128))
  Prog.lift (.store arg6 (Rect.unit (s := S48x14336) ![0, 128 * g.val] S48x128.size (inbX g)) (tileX xs g x) Finset.univ
    (View.stores_vmem h_S48x128 (harg6.storeExact_slice rfl _ (packedX g)) (fun _ => rfl)) (.inl rfl))

/-- Wait for weight panel `k`. -/
def waitW (k : Fin k0_t1_loop.trips) : PK F PUnit :=
  Prog.lift (.waitDma2 ((arg13.slice (Rect.unit (s := S28) (k0_off1 k) S1.size (k0_off1_inb k))).squeeze S_ squeezes_S1_S_).sem
    (arg2.slice (Rect.unit (s := S4096x14336) (k0_off3 k) S4096x512.size (k0_off3_inb k)) (fun _ => rfl))
    (arg5.slice (Rect.unit (s := S4096x14464) (k0_off2 k) S4096x512.size (k0_off2_inb k)) (fun _ => rfl))
    (harg2.wordExact_slice rfl _ (k0_off3_wordsfp8e4m3 k)) (harg5.wordExact_slice rfl _ (k0_off2_wordsfp8e4m3 k)))

/-- Load tile `i` of panel `k` of the scaled activations. -/
def loadX (k : Fin k0_t1_loop.trips) (i : Fin 4) : Prog (TpuEff nD τ sig (Elt F) Λ₀ .tc) (Vec F S48x128 .bf16) :=
  Prog.lift (.load arg6 (Rect.unit (s := S48x14336) (xwOff k i.val) S48x128.size (inbXk k i)).toLoadRect (View.loadsAt_vmem h_S48x128))

/-- Load the scale word of tile `i` of panel `k`, row `r`. -/
def loadS (k : Fin k0_t1_loop.trips) (r : Fin 8) (i : Fin 4) : Prog (TpuEff nD τ sig (Elt F) Λ₀ .tc) (Elt F .i32) :=
  smemLoad arg11 (Rect.unit (s := S8x112) (wsOff k r.val i.val) S1x1.size (inbWs k r i)) numel1_S1x1 rfl

/-- Add the product of panel `k` with strip `j` of the weights. -/
def strip (k : Fin k0_t1_loop.trips) (j : Fin 16) : PK F PUnit := do
  let x0 ← loadX arg6 k 0
  let s0 ← loadS arg11 k ⟨j.val / 2, row_lt j⟩ 0
  let x1 ← loadX arg6 k 1
  let s1 ← loadS arg11 k ⟨j.val / 2, row_lt j⟩ 1
  let x2 ← loadX arg6 k 2
  let s2 ← loadS arg11 k ⟨j.val / 2, row_lt j⟩ 2
  let x3 ← loadX arg6 k 3
  let s3 ← loadS arg11 k ⟨j.val / 2, row_lt j⟩ 3
  let y0 ← loadX arg6 k 0
  let t0 ← loadS arg11 k ⟨j.val / 2, row_lt j⟩ 0
  let y1 ← loadX arg6 k 1
  let t1 ← loadS arg11 k ⟨j.val / 2, row_lt j⟩ 1
  let y2 ← loadX arg6 k 2
  let t2 ← loadS arg11 k ⟨j.val / 2, row_lt j⟩ 2
  let y3 ← loadX arg6 k 3
  let t3 ← loadS arg11 k ⟨j.val / 2, row_lt j⟩ 3
  let w : Vec F S256x512 .fp8e4m3 ← Prog.lift (.load arg5 (Rect.unit (s := S4096x14464) (wOff k j.val) S256x512.size (inbW k j)).toLoadRect (View.loadsAt_vmem h_S256x512))
  let a : Vec F S48x128 .f32 ← Prog.lift (.load arg8 (Rect.unit (s := S48x4096) ![0, 128 * (2 * j.val)] S48x128.size (inbA ⟨_, colA_lt j⟩)).toLoadRect (View.loadsAt_vmem h_S48x128))
  let _ : Vec F S48x128 .f32 ← Prog.lift (.load arg8 (Rect.unit (s := S48x4096) ![0, 128 * (2 * j.val)] S48x128.size (inbA ⟨_, colA_lt j⟩)).toLoadRect (View.loadsAt_vmem h_S48x128))
  Prog.lift (.store arg8 (Rect.unit (s := S48x4096) ![0, 128 * (2 * j.val)] S48x128.size (inbA ⟨_, colA_lt j⟩))
    (addA a (strip2 (band (BitVec.ofNat 32 (16 * (j.val % 2))) x0 x1 x2 x3 s0 s1 s2 s3)
      (band (BitVec.ofNat 32 (16 * (j.val % 2) + 8)) y0 y1 y2 y3 t0 t1 t2 t3) w)) Finset.univ (View.stores_vmem_bits_univ h_S48x128 rfl) (.inl rfl))
  let b : Vec F S48x128 .f32 ← Prog.lift (.load arg8 (Rect.unit (s := S48x4096) ![0, 128 * (2 * j.val + 1)] S48x128.size (inbA ⟨_, colB_lt j⟩)).toLoadRect (View.loadsAt_vmem h_S48x128))
  let _ : Vec F S48x128 .f32 ← Prog.lift (.load arg8 (Rect.unit (s := S48x4096) ![0, 128 * (2 * j.val + 1)] S48x128.size (inbA ⟨_, colB_lt j⟩)).toLoadRect (View.loadsAt_vmem h_S48x128))
  Prog.lift (.store arg8 (Rect.unit (s := S48x4096) ![0, 128 * (2 * j.val + 1)] S48x128.size (inbA ⟨_, colB_lt j⟩))
    (addB b (strip2 (band (BitVec.ofNat 32 (16 * (j.val % 2))) x0 x1 x2 x3 s0 s1 s2 s3)
      (band (BitVec.ofNat 32 (16 * (j.val % 2) + 8)) y0 y1 y2 y3 t0 t1 t2 t3) w)) Finset.univ (View.stores_vmem_bits_univ h_S48x128 rfl) (.inl rfl))

end Steps

/-- One trip of the kernel's loop is: wait for the panel, then the sixteen strips. -/
theorem trip_eq (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) :
    k0_t1_body (F := F) arg0 harg0 arg1 harg1 arg2 harg2 arg3 harg3 arg4 harg4 arg5 harg5 arg6 harg6 arg7 harg7 arg8 harg8 arg9 harg9 arg10 harg10 arg11 harg11 arg12 arg13 arg14 = fun k _ => (waitW arg2 harg2 arg5 harg5 arg13 k >>= fun _ => seqFin 16 (strip arg5 arg6 arg8 arg11 k)) := by
  funext k u
  sl_kernel_rfl

/-- The kernel's body, as loops over its steps. -/
def body (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) : PK F PUnit := do
  Prog.lift (.enqueueDma arg1 (.here arg10) (.dma ((arg12.slice (Rect.unit (s := S3) ![0] S1.size inb_S3_S1_0)).squeeze S_ squeezes_S1_S_).sem) harg1.wordExact harg10.wordExact ⟨Or.inl rfl, trivial⟩)
  Prog.lift (.enqueueDma arg3 (.here arg11) (.dma ((arg12.slice (Rect.unit (s := S3) ![1] S1.size inb_S3_S1_1)).squeeze S_ squeezes_S1_S_).sem) harg3.wordExact harg11.wordExact ⟨Or.inl rfl, trivial⟩)
  Prog.lift (.enqueueDma arg0 (.here arg7) (.dma ((arg12.slice (Rect.unit (s := S3) ![2] S1.size inb_S3_S1_2)).squeeze S_ squeezes_S1_S_).sem) harg0.wordExact harg7.wordExact ⟨Or.inl rfl, trivial⟩)
  seqFin 28 (startW arg2 harg2 arg5 harg5 arg13)
  let _ : Vec F S48x4096 .f32 ← Prog.lift (.load arg8 (Rect.unit (s := S48x4096) ![0, 0] S48x4096.size inb_S48x4096_S48x4096_0_0).toLoadRect (View.loadsAt_vmem h_S48x4096))
  Prog.lift (.store arg8 (Rect.unit (s := S48x4096) ![0, 0] S48x4096.size inb_S48x4096_S48x4096_0_0) (k0_pay154 (F := F)) Finset.univ (View.stores_vmem_bits_univ h_S48x4096 rfl) (.inl rfl))
  Prog.lift (.waitDma2 ((arg12.slice (Rect.unit (s := S3) ![0] S1.size inb_S3_S1_0)).squeeze S_ squeezes_S1_S_).sem arg1 arg10 harg1.wordExact harg10.wordExact)
  Prog.lift (.waitDma2 ((arg12.slice (Rect.unit (s := S3) ![1] S1.size inb_S3_S1_1)).squeeze S_ squeezes_S1_S_).sem arg3 arg11 harg3.wordExact harg11.wordExact)
  Prog.lift (.waitDma2 ((arg12.slice (Rect.unit (s := S3) ![2] S1.size inb_S3_S1_2)).squeeze S_ squeezes_S1_S_).sem arg0 arg7 harg0.wordExact harg7.wordExact)
  let xs : Vec F S48x112 .i8 ← Prog.lift (.load arg10 (Rect.unit (s := S48x112) ![0, 0] S48x112.size inb_S48x112_S48x112_0_0).toLoadRect (View.loadsAt_vmem h_S48x112))
  seqFin 112 (stepX arg6 harg6 arg7 (scaleX xs))
  Scf.Loop.for k0_t1_loop k0_t1_ok ⟨⟩ (fun k _ => (waitW arg2 harg2 arg5 harg5 arg13 k >>= fun _ => seqFin 16 (strip arg5 arg6 arg8 arg11 k)))
  let acc : Vec F S48x4096 .f32 ← Prog.lift (.load arg8 (Rect.unit (s := S48x4096) ![0, 0] S48x4096.size inb_S48x4096_S48x4096_0_0).toLoadRect (View.loadsAt_vmem h_S48x4096))
  let _ : Vec F S48x4096 .bf16 ← Prog.lift (.load arg9 (Rect.unit (s := S48x4096) ![0, 0] S48x4096.size inb_S48x4096_S48x4096_0_0).toLoadRect (View.loadsAt_vmem h_S48x4096))
  Prog.lift (.store arg9 (Rect.unit (s := S48x4096) ![0, 0] S48x4096.size inb_S48x4096_S48x4096_0_0) (k0_pay4 acc) Finset.univ (View.stores_vmem h_S48x4096 (harg9.storeExact_slice rfl _ packedbf16_S48x4096_S48x4096_0_0) (fun _ => rfl)) (.inl rfl))
  Prog.lift (.enqueueDma arg9 (.here arg4) (.dma arg14.sem) harg9.wordExact harg4.wordExact ⟨Or.inl rfl, trivial⟩)
  Prog.lift (.waitDma2 arg14.sem arg9 arg4 harg9.wordExact harg4.wordExact)

/-- The printed body is the body folded. -/
theorem body_eq (arg0 : Memref sig .tc .hbm S48x14336 .fp8e4m3) (harg0 : arg0.IsWhole) (arg1 : Memref sig .tc .hbm S48x112 .i8) (harg1 : arg1.IsWhole) (arg2 : Memref sig .tc .hbm S4096x14336 .fp8e4m3) (harg2 : arg2.IsWhole) (arg3 : Memref sig .tc .hbm S8x112 .i32) (harg3 : arg3.IsWhole) (arg4 : Memref sig .tc .hbm S48x4096 .bf16) (harg4 : arg4.IsWhole) (arg5 : Memref sig .tc .vmem S4096x14464 .fp8e4m3) (harg5 : arg5.IsWhole) (arg6 : Memref sig .tc .vmem S48x14336 .bf16) (harg6 : arg6.IsWhole) (arg7 : Memref sig .tc .vmem S48x14336 .fp8e4m3) (harg7 : arg7.IsWhole) (arg8 : Memref sig .tc .vmem S48x4096 .f32) (harg8 : arg8.IsWhole) (arg9 : Memref sig .tc .vmem S48x4096 .bf16) (harg9 : arg9.IsWhole) (arg10 : Memref sig .tc .vmem S48x112 .i8) (harg10 : arg10.IsWhole) (arg11 : Memref sig .tc .smem S8x112 .i32) (harg11 : arg11.IsWhole) (arg12 : DmaSems sig S3) (arg13 : DmaSems sig S28) (arg14 : DmaSems sig S_) :
    cc0__body (F := F) arg0 harg0 arg1 harg1 arg2 harg2 arg3 harg3 arg4 harg4 arg5 harg5 arg6 harg6 arg7 harg7 arg8 harg8 arg9 harg9 arg10 harg10 arg11 harg11 arg12 arg13 arg14 = body arg0 harg0 arg1 harg1 arg2 harg2 arg3 harg3 arg4 harg4 arg5 harg5 arg6 harg6 arg7 harg7 arg8 harg8 arg9 harg9 arg10 harg10 arg11 harg11 arg12 arg13 arg14 := by
  rw [cc0__body_eq_skeleton]
  unfold cc0__body_skel
  rw [trip_eq]
  sl_kernel_rfl

end Cert.KernelIdeal.Hand

end
-- ==== Proof.StepsI.lean ====
module

public import proofs.«01_k».proof.Proof.RefoldI
public import proofs.«01_k».proof.Proof.Base

@[expose] public section

set_option synthInstance.maxSize 4096

noncomputable section

namespace Cert.KernelIdeal.Hand

open Cert.Base Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weakest precondition of a program of the kernel on core `c`. -/
abbrev wpk (c : Dev nD) {α : Type} (p : Prog (TpuEff nD τ sig (Elt F) Λ₀ .tc) α) (Q : α → sProp 𝕄) : sProp 𝕄 :=
  wpc (defs₀ (F := F)) c p Q

/-- A sequence of steps each taking the state `I i` to `I (i + 1)` takes `I 0` to `I n`. -/
theorem wp_seqFin (c : Dev nD) : ∀ (n : Nat) (I : Nat → sProp 𝕄) (p : Fin n → PK F PUnit),
    (∀ i : Fin n, I i.val ⊢ wpk c (p i) (fun _ => I (i.val + 1))) → I 0 ⊢ wpk c (seqFin n p) (fun _ => I n)
  | 0, I, p, _ => le_wp_ret _ _ _ _ (fun _ => I 0)
  | n + 1, I, p, h => by
    show I 0 ⊢ wp _ _ _ (p 0 >>= fun _ => seqFin n (fun i => p i.succ)) _
    rw [wp_bind]
    refine (h 0).trans (wp_mono _ _ _ fun _ => ?_)
    exact wp_seqFin c n (fun i => I (i + 1)) (fun i => p i.succ) (fun i => h i.succ)

attribute [local irreducible] seqFin

section Steps
variable (c : Dev nD)
  (arg2 : Memref sig .tc .hbm S4096x14336 .fp8e4m3) (harg2 : arg2.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3)
  (arg8 : Memref sig .tc .vmem S48x4096 .f32)
  (arg11 : Memref sig .tc .smem S8x112 .i32)
  (arg13 : DmaSems sig S28)

/-! ## Scaling the activations -/

/-- What scaling tile `g` leaves in the buffer of scaled activations. -/
def updX (xs : FVec F S48x112 .bf16) (x : Buf (Elt F) (arg7.view.loc (c : Thread nD τ))) (g : Fin 112)
    (f : Buf (Elt F) (arg6.view.loc (c : Thread nD τ))) : Buf (Elt F) (arg6.view.loc (c : Thread nD τ)) :=
  (arg6.access (Rect.unit (s := S48x14336) ![0, 128 * g.val] S48x128.size (inbX g))).write (Elt F) f
    (tileX xs g ((arg7.access (Rect.unit (s := S48x14336) ![0, 128 * g.val] S48x128.size (inbX g))).read (Elt F) x)) Finset.univ

/-- The step of group `g` writes the group's scaled tile and leaves the codes as they were. -/
theorem wp_stepX (xs : FVec F S48x112 .bf16) (g : Fin 112) (x : Buf (Elt F) (arg7.view.loc (c : Thread nD τ)))
    (f : Buf (Elt F) (arg6.view.loc (c : Thread nD τ))) :
    iprop(held c arg7 x ∗ held c arg6 f) ⊢ wpk c (stepX arg6 harg6 arg7 xs g)
      (fun _ => iprop(held c arg7 x ∗ held c arg6 (updX c arg6 arg7 xs x g f))) := by
  unfold stepX
  simp only [Prog.lift, Prog.bind_op, Prog.bind_ret]
  iintro ⟨H7, H6⟩
  iapply (ld c arg7) $$ H7
  iintro H7
  iapply (ld c arg6) $$ H6
  iintro H6
  iapply (st c arg6) $$ H6
  iintro H6
  iapply (le_wp_ret _ _ _ _ _)
  isplitl [H7]; · iexact H7
  iexact H6

/-! ## The weights' panels -/

/-- Panel `p` of the weights where they lie. -/
abbrev src2 (p : Fin 28) : Memref sig .tc .hbm S4096x512 .fp8e4m3 :=
  arg2.slice (Rect.unit (s := S4096x14336) ![0, 512 * p.val] S4096x512.size (inbW2 p)) (fun _ => rfl)
/-- Panel `p` of the buffer the weights are copied to. -/
abbrev dst5 (p : Fin 28) : Memref sig .tc .vmem S4096x512 .fp8e4m3 :=
  arg5.slice (Rect.unit (s := S4096x14464) ![0, 512 * p.val] S4096x512.size (inbW5 p)) (fun _ => rfl)
/-- The semaphore of panel `p`'s copy. -/
abbrev semW (p : Fin 28) : DmaSem sig := ((arg13.slice (Rect.unit (s := S28) ![p.val] S1.size (inbSem p))).squeeze S_ squeezes_S1_S_).sem

variable (f2 : Buf (Elt F) (arg2.view.loc (c : Thread nD τ))) (f5 : Buf (Elt F) (arg5.view.loc (c : Thread nD τ)))

/-- The buffer of weights once panel `p` has been copied. -/
def buf5 (p : Fin 28) : Buf (Elt F) (arg5.view.loc (c : Thread nD τ)) :=
  (dst5 arg5 p).view.write (Elt F) f5 ((src2 arg2 p).view.read (Elt F) f2) Finset.univ

/-- Panel `p` copied, and its source. -/
def dl (p : Fin 28) : sProp 𝕄 :=
  iprop(((dst5 arg5 p).view.loc (c : Thread nD τ) ↦[(dst5 arg5 p).view.set]{fullShare} buf5 c arg2 arg5 f2 f5 p)
    ∗ ((src2 arg2 p).view.loc (c : Thread nD τ) ↦[(src2 arg2 p).view.set]{fullShare} f2))
/-- Panel `p` before its copy starts. -/
def In (p : Fin 28) : sProp 𝕄 :=
  iprop(((src2 arg2 p).view.loc (c : Thread nD τ) ↦[(src2 arg2 p).view.set]{fullShare} f2)
    ∗ ((dst5 arg5 p).view.loc (c : Thread nD τ) ↦[(dst5 arg5 p).view.set]{fullShare} f5)
    ∗ semVal ((c : Thread nD τ), .dma (semW arg13 p)) 0)
/-- Panel `p` in flight. -/
def Fl (p : Fin 28) : sProp 𝕄 := fly c (semW arg13 p) (dst5 arg5 p).view.dmaCredit (dl c arg2 arg5 f2 f5 p)
/-- Panel `p` copied, its semaphore at zero again. -/
def Dn (p : Fin 28) : sProp 𝕄 := iprop(dl c arg2 arg5 f2 f5 p ∗ semVal ((c : Thread nD τ), .dma (semW arg13 p)) 0)

/-- The start of the copy of panel `p` sends the panel on its way. -/
theorem wp_startW (p : Fin 28) :
    In c arg2 arg5 arg13 f2 f5 p ⊢ wpk c (startW arg2 harg2 arg5 harg5 arg13 p) (fun _ => Fl c arg2 arg5 arg13 f2 f5 p) := by
  unfold startW In Fl dl buf5
  simp only [Prog.lift]
  iintro ⟨H2, H5, Hs⟩
  iapply (start c (src2 arg2 p) (dst5 arg5 p) (semW arg13 p) (Shape.numel_pos (by decide))) $$ [H2 H5 Hs]
  · isplitl [H2]; · iexact H2
    isplitl [H5]; · iexact H5
    iexact Hs
  iintro Hf
  iapply (le_wp_ret _ _ _ _ _)
  iexact Hf

/-- The starts of all the copies. -/
theorem wp_starts :
    bigSep Finset.univ (In c arg2 arg5 arg13 f2 f5) ⊢ wpk c (seqFin 28 (startW arg2 harg2 arg5 harg5 arg13))
      (fun _ => bigSep Finset.univ (Fl c arg2 arg5 arg13 f2 f5)) := by
  have h := wp_seqFin (F := F) c 28 (fun i => bigSep Finset.univ (fun p : Fin 28 => if p.val < i then Fl c arg2 arg5 arg13 f2 f5 p else In c arg2 arg5 arg13 f2 f5 p))
    (startW arg2 harg2 arg5 harg5 arg13) (fun i => by
      refine (family_step _ _ i).trans ?_
      refine (sep_mono_left (wp_startW c arg2 harg2 arg5 harg5 arg13 f2 f5 i)).trans ?_
      refine (wp_frame_r _ _ _).trans (wp_mono _ _ _ fun _ => ?_)
      exact wand_elim_right)
  rw [family_zero, family_all] at h
  exact h

/-- The loop has 28 trips. -/
theorem trips_eq : k0_t1_loop.trips = 28 := by decide +kernel
/-- A trip of the loop as a panel's number. -/
abbrev pan (k : Fin k0_t1_loop.trips) : Fin 28 := k.cast trips_eq

/-- The semaphore that trip `k` waits on is its panel's. -/
theorem sem_eq (k : Fin k0_t1_loop.trips) :
    ((arg13.slice (Rect.unit (s := S28) (k0_off1 k) S1.size (k0_off1_inb k))).squeeze S_ squeezes_S1_S_).sem = semW arg13 (pan k) := by
  have h : ∀ (o o' : Fin 1 → Nat) (ho : o = o') (h : ∀ a, o a + S1.size a ≤ S28.size a) (h' : ∀ a, o' a + S1.size a ≤ S28.size a),
      ((arg13.slice (Rect.unit (s := S28) o S1.size h)).squeeze S_ squeezes_S1_S_).sem
        = ((arg13.slice (Rect.unit (s := S28) o' S1.size h')).squeeze S_ squeezes_S1_S_).sem := by
    intro o o' ho h h'; subst ho; rfl
  exact h _ _ (k0_off1_eq k) _ _

/-- The wait of trip `k` ends with the trip's panel copied. -/
theorem wp_waitW (k : Fin k0_t1_loop.trips) :
    iprop(Fl c arg2 arg5 arg13 f2 f5 (pan k) ∗ idle (Val := Elt F) c) ⊢ wpk c (waitW arg2 harg2 arg5 harg5 arg13 k)
      (fun _ => iprop(Dn c arg2 arg5 arg13 f2 f5 (pan k) ∗ idle (Val := Elt F) c)) := by
  unfold waitW Fl Dn
  rw [sem_eq]
  simp only [Prog.lift]
  iintro H
  iapply (await c (arg2.slice (Rect.unit (s := S4096x14336) (k0_off3 k) S4096x512.size (k0_off3_inb k)) (fun _ => rfl))
    (arg5.slice (Rect.unit (s := S4096x14464) (k0_off2 k) S4096x512.size (k0_off2_inb k)) (fun _ => rfl)) (semW arg13 (pan k)) (n := (dst5 arg5 (pan k)).view.dmaCredit) rfl) $$ H
  iintro ⟨HD, Hs, HW⟩
  iapply (le_wp_ret _ _ _ _ _)
  isplitr [HW]
  · isplitl [HD]; · iexact HD
    iexact Hs
  iexact HW

/-! ## The strips of a panel -/

variable (f6 : Buf (Elt F) (arg6.view.loc (c : Thread nD τ))) (f11 : Buf (Elt F) (arg11.view.loc (c : Thread nD τ)))

/-- Tile `i` of panel `k` of the scaled activations. -/
def xTile (k : Fin k0_t1_loop.trips) (i : Fin 4) : Vec F S48x128 .bf16 :=
  (arg6.access (Rect.unit (s := S48x14336) (xwOff k i.val) S48x128.size (inbXk k i))).read (Elt F) f6
/-- The scale word of tile `i` of panel `k`, row `r`. -/
def sWord (k : Fin k0_t1_loop.trips) (r : Fin 8) (i : Fin 4) : Elt F .i32 :=
  (arg11.access (Rect.unit (s := S8x112) (wsOff k r.val i.val) S1x1.size (inbWs k r i))).read (Elt F) f11 (Shape.Idx.first (s := S1x1) (by rw [numel1_S1x1]; exact Nat.one_pos))
/-- Strip `j` of panel `k` of the weights. -/
def wStrip (k : Fin k0_t1_loop.trips) (j : Fin 16) : Vec F S256x512 .fp8e4m3 :=
  (arg5.access (Rect.unit (s := S4096x14464) (wOff k j.val) S256x512.size (inbW k j))).read (Elt F) (buf5 c arg2 arg5 f2 f5 (pan k))
/-- Panel `k`'s activations scaled for the output rows whose scale lies `sh` bits up in the words of row `r`. -/
def bandAt (k : Fin k0_t1_loop.trips) (r : Fin 8) (sh : BitVec 32) : FVec F S48x512 .bf16 :=
  band sh (xTile c arg6 f6 k 0) (xTile c arg6 f6 k 1) (xTile c arg6 f6 k 2) (xTile c arg6 f6 k 3)
    (sWord c arg11 f11 k r 0) (sWord c arg11 f11 k r 1) (sWord c arg11 f11 k r 2) (sWord c arg11 f11 k r 3)
/-- Panel `k`'s product with strip `j`. -/
def dot2 (k : Fin k0_t1_loop.trips) (j : Fin 16) : FVec F S128x256 .f32 :=
  strip2 (bandAt c arg6 arg11 f6 f11 k ⟨j.val / 2, row_lt j⟩ (BitVec.ofNat 32 (16 * (j.val % 2))))
    (bandAt c arg6 arg11 f6 f11 k ⟨j.val / 2, row_lt j⟩ (BitVec.ofNat 32 (16 * (j.val % 2) + 8)))
    (wStrip c arg2 arg5 f2 f5 k j)

/-- Tile `n` of the accumulator, as a view. -/
abbrev accV (n : Fin 32) := arg8.access (Rect.unit (s := S48x4096) ![0, 128 * n.val] S48x128.size (inbA n))

/-- What strip `j` of panel `k` leaves in the accumulator. -/
def updA (k : Fin k0_t1_loop.trips) (j : Fin 16) (a : Buf (Elt F) (arg8.view.loc (c : Thread nD τ))) : Buf (Elt F) (arg8.view.loc (c : Thread nD τ)) :=
  have a' := (accV arg8 ⟨2 * j.val, colA_lt j⟩).write (Elt F) a
    (addA ((accV arg8 ⟨2 * j.val, colA_lt j⟩).read (Elt F) a) (dot2 c arg2 arg5 arg6 arg11 f2 f5 f6 f11 k j)) Finset.univ
  (accV arg8 ⟨2 * j.val + 1, colB_lt j⟩).write (Elt F) a'
    (addB ((accV arg8 ⟨2 * j.val + 1, colB_lt j⟩).read (Elt F) a') (dot2 c arg2 arg5 arg6 arg11 f2 f5 f6 f11 k j)) Finset.univ

/-- Strip `j` of panel `k` begins at row `256 j` and column `512 k`. -/
theorem wOff_eq (k : Fin k0_t1_loop.trips) (j : Fin 16) : wOff k j.val = ![256 * j.val, 512 * k.val] := by
  revert k j; decide +kernel

/-- The strip lies in its panel. -/
theorem strip_sub (k : Fin k0_t1_loop.trips) (j : Fin 16) :
    (arg5.access (Rect.unit (s := S4096x14464) (wOff k j.val) S256x512.size (inbW k j))).set ⊆ (dst5 arg5 (pan k)).view.set := by
  rw [View.set_slice, View.set_slice]
  refine Finset.map_subset_map.mpr ?_
  intro x hx
  rw [Rect.mem_set_unit] at hx ⊢
  intro a
  have := hx a
  rw [wOff_eq] at this
  have hj := j.isLt
  fin_cases a
  · simp [Shape.size] at this ⊢; omega
  · simp at this ⊢; omega

/-- Strip `j` of a panel adds its products to two blocks of the accumulator and leaves what it reads as it was. -/
theorem wp_strip (k : Fin k0_t1_loop.trips) (j : Fin 16) (a : Buf (Elt F) (arg8.view.loc (c : Thread nD τ))) :
    iprop(dl c arg2 arg5 f2 f5 (pan k) ∗ held c arg6 f6 ∗ held c arg11 f11 ∗ held c arg8 a)
      ⊢ wpk c (strip arg5 arg6 arg8 arg11 k j)
      (fun _ => iprop(dl c arg2 arg5 f2 f5 (pan k) ∗ held c arg6 f6 ∗ held c arg11 f11
        ∗ held c arg8 (updA c arg2 arg5 arg6 arg8 arg11 f2 f5 f6 f11 k j a))) := by
  unfold strip loadX loadS dl
  simp only [Prog.lift, Prog.bind_op, Prog.bind_ret]
  iintro ⟨⟨H5, H2⟩, H6, H11, H8⟩
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ld c arg6) $$ H6
  iintro H6
  iapply (lds c arg11) $$ H11
  iintro H11
  iapply (ldS c arg5 (strip_sub arg5 k j)) $$ H5
  iintro H5
  iapply (ld c arg8) $$ H8
  iintro H8
  iapply (ld c arg8) $$ H8
  iintro H8
  iapply (st c arg8) $$ H8
  iintro H8
  iapply (ld c arg8) $$ H8
  iintro H8
  iapply (ld c arg8) $$ H8
  iintro H8
  iapply (st c arg8) $$ H8
  iintro H8
  iapply (le_wp_ret _ _ _ _ _)
  isplitl [H5 H2]
  · isplitl [H5]; · iexact H5
    iexact H2
  isplitl [H6]; · iexact H6
  isplitl [H11]; · iexact H11
  iexact H8

end Steps

end Cert.KernelIdeal.Hand

end
-- ==== Proof.BodyI.lean ====
module

public import proofs.«01_k».proof.Proof.StepsI

@[expose] public section

set_option synthInstance.maxSize 4096

noncomputable section

namespace Cert.KernelIdeal.Hand

open Cert.Base Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

attribute [local irreducible] seqFin

section Body
variable (c : Dev nD)
  (arg0 : Memref sig .tc .hbm S48x14336 .fp8e4m3) (harg0 : arg0.IsWhole)
  (arg1 : Memref sig .tc .hbm S48x112 .i8) (harg1 : arg1.IsWhole)
  (arg2 : Memref sig .tc .hbm S4096x14336 .fp8e4m3) (harg2 : arg2.IsWhole)
  (arg3 : Memref sig .tc .hbm S8x112 .i32) (harg3 : arg3.IsWhole)
  (arg4 : Memref sig .tc .hbm S48x4096 .bf16) (harg4 : arg4.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg9 : Memref sig .tc .vmem S48x4096 .bf16) (harg9 : arg9.IsWhole)
  (arg10 : Memref sig .tc .vmem S48x112 .i8) (harg10 : arg10.IsWhole)
  (arg11 : Memref sig .tc .smem S8x112 .i32) (harg11 : arg11.IsWhole)
  (arg12 : DmaSems sig S3) (arg13 : DmaSems sig S28) (arg14 : DmaSems sig S_)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-! ## All the activations -/

/-- The steps over all 112 groups leave the activations scaled and their codes as they were. -/
theorem wp_scale (xs : FVec F S48x112 .bf16) (x : Buf (Elt F) (arg7.view.loc (c : Thread nD τ))) :
    iprop(held c arg7 x ∗ held c arg6 f6) ⊢ wpk c (seqFin 112 (stepX arg6 harg6 arg7 xs))
      (fun _ => iprop(held c arg7 x ∗ held c arg6 (upTo (updX c arg6 arg7 xs x) f6 112))) := by
  have h := wp_seqFin (F := F) c 112 (fun i => iprop(held c arg7 x ∗ held c arg6 (upTo (updX c arg6 arg7 xs x) f6 i))) (stepX arg6 harg6 arg7 xs) (fun g => by
    rw [upTo_succ]
    exact wp_stepX c arg6 harg6 arg7 xs g x _)
  rw [upTo_zero] at h
  exact h

/-! ## The loop over the panels -/

/-- What a trip of the loop leaves in the accumulator. -/
def updT (k : Fin k0_t1_loop.trips) (a : Buf (Elt F) (arg8.view.loc (c : Thread nD τ))) : Buf (Elt F) (arg8.view.loc (c : Thread nD τ)) :=
  upTo (updA c arg2 arg5 arg6 arg8 arg11 f2 f5 f6 f11 k) a 16

/-- The 16 strips of a panel leave the accumulator with the panel's products added, and what they read as it was. -/
theorem wp_strips (k : Fin k0_t1_loop.trips) (a : Buf (Elt F) (arg8.view.loc (c : Thread nD τ))) :
    iprop(dl c arg2 arg5 f2 f5 (pan k) ∗ held c arg6 f6 ∗ held c arg11 f11 ∗ held c arg8 a)
      ⊢ wpk c (seqFin 16 (strip arg5 arg6 arg8 arg11 k))
      (fun _ => iprop(dl c arg2 arg5 f2 f5 (pan k) ∗ held c arg6 f6 ∗ held c arg11 f11
        ∗ held c arg8 (updT c arg2 arg5 arg6 arg8 arg11 f2 f5 f6 f11 k a))) := by
  have h := wp_seqFin (F := F) c 16 (fun i => iprop(dl c arg2 arg5 f2 f5 (pan k) ∗ held c arg6 f6 ∗ held c arg11 f11
        ∗ held c arg8 (upTo (updA c arg2 arg5 arg6 arg8 arg11 f2 f5 f6 f11 k) a i))) (strip arg5 arg6 arg8 arg11 k) (fun j => by
    rw [upTo_succ]
    exact wp_strip c arg2 arg5 arg6 arg8 arg11 f2 f5 f6 f11 k j _)
  rw [upTo_zero] at h
  unfold updT
  exact h

/-- The state of the loop before trip `k`. -/
def Lp (k : Nat) : sProp 𝕄 :=
  iprop(bigSep Finset.univ (fun p : Fin 28 => if p.val < k then Dn c arg2 arg5 arg13 f2 f5 p else Fl c arg2 arg5 arg13 f2 f5 p)
    ∗ idle (Val := Elt F) c ∗ held c arg6 f6 ∗ held c arg11 f11
    ∗ held c arg8 (upTo (updT c arg2 arg5 arg6 arg8 arg11 f2 f5 f6 f11) f8 k))

/-- A trip of the loop takes the state before it to the state after it: it waits for its panel and adds the panel's products. -/
theorem wp_trip (k : Fin k0_t1_loop.trips) :
    Lp c arg2 arg5 arg6 arg8 arg11 arg13 f2 f5 f6 f8 f11 k.val
      ⊢ wpk c (waitW arg2 harg2 arg5 harg5 arg13 k >>= fun _ => seqFin 16 (strip arg5 arg6 arg8 arg11 k))
      (fun _ => Lp c arg2 arg5 arg6 arg8 arg11 arg13 f2 f5 f6 f8 f11 (k.val + 1)) := by
  unfold Lp wpk wpc
  rw [upTo_succ, wp_bind]
  iintro ⟨HB, HW, H6, H11, H8⟩
  have hfam : bigSep Finset.univ (fun p : Fin 28 => if p.val < k.val then Dn c arg2 arg5 arg13 f2 f5 p else Fl c arg2 arg5 arg13 f2 f5 p)
      ⊢ iprop(Fl c arg2 arg5 arg13 f2 f5 (pan k) ∗ (Dn c arg2 arg5 arg13 f2 f5 (pan k)
        -∗ bigSep Finset.univ (fun p : Fin 28 => if p.val < k.val + 1 then Dn c arg2 arg5 arg13 f2 f5 p else Fl c arg2 arg5 arg13 f2 f5 p))) :=
    family_step (Dn c arg2 arg5 arg13 f2 f5) (Fl c arg2 arg5 arg13 f2 f5) (pan k)
  ihave HB := hfam $$ HB
  icases HB with ⟨HF, HB⟩
  iapply (wp_wand _ _ _) $$ [HF HW]
  · iapply (wp_waitW c arg2 harg2 arg5 harg5 arg13 f2 f5 k) $$ [HF HW]
    isplitl [HF]; · iexact HF
    iexact HW
  iintro %u ⟨HD, HW⟩
  unfold Dn
  icases HD with ⟨HD, Hs⟩
  iapply (wp_wand _ _ _) $$ [HD H6 H11 H8]
  · iapply (wp_strips c arg2 arg5 arg6 arg8 arg11 f2 f5 f6 f11 k _) $$ [HD H6 H11 H8]
    isplitl [HD]; · iexact HD
    isplitl [H6]; · iexact H6
    isplitl [H11]; · iexact H11
    iexact H8
  iintro %u ⟨HD, H6, H11, H8⟩
  isplitl [HB HD Hs]
  · iapply HB
    isplitl [HD]; · iexact HD
    iexact Hs
  isplitl [HW]; · iexact HW
  isplitl [H6]; · iexact H6
  isplitl [H11]; · iexact H11
  iexact H8

/-- The loop takes its first state to its last. -/
theorem wp_loop :
    Lp c arg2 arg5 arg6 arg8 arg11 arg13 f2 f5 f6 f8 f11 0
      ⊢ wpk c (Scf.Loop.for k0_t1_loop k0_t1_ok ⟨⟩ (fun k _ => (waitW arg2 harg2 arg5 harg5 arg13 k >>= fun _ => seqFin 16 (strip arg5 arg6 arg8 arg11 k))))
      (fun _ => Lp c arg2 arg5 arg6 arg8 arg11 arg13 f2 f5 f6 f8 f11 28) :=
  loop c k0_t1_loop k0_t1_ok _ (Lp c arg2 arg5 arg6 arg8 arg11 arg13 f2 f5 f6 f8 f11)
    (fun k => wp_trip c arg2 harg2 arg5 harg5 arg6 arg8 arg11 arg13 f2 f5 f6 f8 f11 k) trips_eq

/-! ## The whole body -/

/-- The activation scales' codes as copied. -/
def c10 : Buf (Elt F) (arg10.view.loc (c : Thread nD τ)) := arg10.view.write (Elt F) f10 (arg1.view.read (Elt F) f1) Finset.univ
/-- The weight scales' words as copied. -/
def c11 : Buf (Elt F) (arg11.view.loc (c : Thread nD τ)) := arg11.view.write (Elt F) f11 (arg3.view.read (Elt F) f3) Finset.univ
/-- The activations as copied. -/
def c7 : Buf (Elt F) (arg7.view.loc (c : Thread nD τ)) := arg7.view.write (Elt F) f7 (arg0.view.read (Elt F) f0) Finset.univ
/-- The accumulator at the start. -/
def c8 : Buf (Elt F) (arg8.view.loc (c : Thread nD τ)) :=
  (arg8.access (Rect.unit (s := S48x4096) ![0, 0] S48x4096.size inb_S48x4096_S48x4096_0_0)).write (Elt F) f8 (k0_pay154 (F := F)) Finset.univ
/-- The scaled activations. -/
def c6 : Buf (Elt F) (arg6.view.loc (c : Thread nD τ)) :=
  upTo (updX c arg6 arg7 (scaleX ((arg10.access (Rect.unit (s := S48x112) ![0, 0] S48x112.size inb_S48x112_S48x112_0_0)).read (Elt F) (c10 c arg1 arg10 f1 f10)))
    (c7 c arg0 arg7 f0 f7)) f6 112
/-- The accumulator at the end. -/
def c8' : Buf (Elt F) (arg8.view.loc (c : Thread nD τ)) :=
  upTo (updT c arg2 arg5 arg6 arg8 arg11 f2 f5 (c6 c arg0 arg1 arg6 arg7 arg10 f0 f1 f6 f7 f10) (c11 c arg3 arg11 f3 f11)) (c8 c arg8 f8) 28
/-- The rounded result before it is copied out. -/
def c9 : Buf (Elt F) (arg9.view.loc (c : Thread nD τ)) :=
  (arg9.access (Rect.unit (s := S48x4096) ![0, 0] S48x4096.size inb_S48x4096_S48x4096_0_0)).write (Elt F) f9
    (k0_pay4 ((arg8.access (Rect.unit (s := S48x4096) ![0, 0] S48x4096.size inb_S48x4096_S48x4096_0_0)).read (Elt F)
      (c8' c arg0 arg1 arg2 arg3 arg5 arg6 arg7 arg8 arg10 arg11 f0 f1 f2 f3 f5 f6 f7 f8 f10 f11))) Finset.univ
/-- The result. -/
def c4 : Buf (Elt F) (arg4.view.loc (c : Thread nD τ)) :=
  arg4.view.write (Elt F) f4 (arg9.view.read (Elt F) (c9 c arg0 arg1 arg2 arg3 arg5 arg6 arg7 arg8 arg9 arg10 arg11 f0 f1 f2 f3 f5 f6 f7 f8 f9 f10 f11)) Finset.univ

/-- One of the three semaphores of the small copies. -/
abbrev semA (j : Nat) (h : ∀ a, (![j] : Fin 1 → Nat) a + S1.size a ≤ S3.size a) : DmaSem sig :=
  ((arg12.slice (Rect.unit (s := S3) ![j] S1.size h)).squeeze S_ squeezes_S1_S_).sem

/-- The body's run. -/
theorem wp_body :
    iprop(idle (Val := Elt F) c ∗ held c arg0 f0 ∗ held c arg1 f1 ∗ held c arg3 f3 ∗ held c arg4 f4
        ∗ bigSep Finset.univ (In c arg2 arg5 arg13 f2 f5)
        ∗ held c arg6 f6 ∗ held c arg7 f7 ∗ held c arg8 f8 ∗ held c arg9 f9 ∗ held c arg10 f10 ∗ held c arg11 f11
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)
      ⊢ wpk c (body arg0 harg0 arg1 harg1 arg2 harg2 arg3 harg3 arg4 harg4 arg5 harg5 arg6 harg6 arg7 harg7 arg8 harg8 arg9 harg9 arg10 harg10 arg11 harg11 arg12 arg13 arg14)
        (fun _ => iprop(idle (Val := Elt F) c ∗ held c arg0 f0 ∗ held c arg1 f1 ∗ held c arg3 f3
        ∗ held c arg4 (c4 c arg0 arg1 arg2 arg3 arg4 arg5 arg6 arg7 arg8 arg9 arg10 arg11 f0 f1 f2 f3 f4 f5 f6 f7 f8 f9 f10 f11)
        ∗ bigSep Finset.univ (Dn c arg2 arg5 arg13 f2 f5)
        ∗ (∃ f, held c arg6 f) ∗ (∃ f, held c arg7 f) ∗ (∃ f, held c arg8 f) ∗ (∃ f, held c arg9 f) ∗ (∃ f, held c arg10 f) ∗ (∃ f, held c arg11 f)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)) := by
  unfold body
  simp only [Prog.lift, Prog.bind_op, Prog.bind_ret]
  iintro ⟨HW, H0, H1, H3, H4, HB, H6, H7, H8, H9, H10, H11, Hs0, Hs1, Hs2, Hs⟩
  iapply (startWhole c arg1 arg10 _ (Shape.numel_pos (by decide)) harg1.set_eq_univ harg10.set_eq_univ) $$ [H1 H10 Hs0]
  · isplitl [H1]; · iexact H1
    isplitl [H10]; · iexact H10
    iexact Hs0
  iintro F0
  iapply (startWhole c arg3 arg11 _ (Shape.numel_pos (by decide)) harg3.set_eq_univ harg11.set_eq_univ) $$ [H3 H11 Hs1]
  · isplitl [H3]; · iexact H3
    isplitl [H11]; · iexact H11
    iexact Hs1
  iintro F1
  iapply (startWhole c arg0 arg7 _ (Shape.numel_pos (by decide)) harg0.set_eq_univ harg7.set_eq_univ) $$ [H0 H7 Hs2]
  · isplitl [H0]; · iexact H0
    isplitl [H7]; · iexact H7
    iexact Hs2
  iintro F2
  unfold wpc
  rw [wp_bind]
  iapply (wp_wand _ _ _) $$ [HB]
  · iapply (wp_starts c arg2 harg2 arg5 harg5 arg13 f2 f5) $$ HB
  iintro %u HB
  iapply (ld c arg8) $$ H8
  iintro H8
  iapply (st c arg8) $$ H8
  iintro H8
  iapply (await c arg1 arg10 _ rfl) $$ [F0 HW]
  · isplitl [F0]; · iexact F0
    iexact HW
  iintro ⟨⟨H10, H1⟩, Hs0, HW⟩
  iapply (await c arg3 arg11 _ rfl) $$ [F1 HW]
  · isplitl [F1]; · iexact F1
    iexact HW
  iintro ⟨⟨H11, H3⟩, Hs1, HW⟩
  iapply (await c arg0 arg7 _ rfl) $$ [F2 HW]
  · isplitl [F2]; · iexact F2
    iexact HW
  iintro ⟨⟨H7, H0⟩, Hs2, HW⟩
  iapply (ld c arg10) $$ H10
  iintro H10
  unfold wpc
  rw [wp_bind]
  iapply (wp_wand _ _ _) $$ [H6 H7]
  · iapply (wp_scale c arg6 harg6 arg7 f6 _ _) $$ [H6 H7]
    isplitl [H7]; · iexact H7
    iexact H6
  iintro %u ⟨H7, H6⟩
  rw [wp_bind]
  iapply (wp_wand _ _ _) $$ [HB HW H6 H11 H8]
  · iapply (wp_loop c arg2 harg2 arg5 harg5 arg6 arg8 arg11 arg13 f2 f5 (c6 c arg0 arg1 arg6 arg7 arg10 f0 f1 f6 f7 f10) (c8 c arg8 f8) (c11 c arg3 arg11 f3 f11)) $$ [HB HW H6 H11 H8]
    unfold Lp
    rw [family_zero, upTo_zero]
    isplitl [HB]; · iexact HB
    isplitl [HW]; · iexact HW
    isplitl [H6]; · iexact H6
    isplitl [H11]; · iexact H11
    iexact H8
  iintro %u HL
  unfold Lp
  rw [family_all]
  icases HL with ⟨HB, HW, H6, H11, H8⟩
  iapply (ld c arg8) $$ H8
  iintro H8
  iapply (ld c arg9) $$ H9
  iintro H9
  iapply (st c arg9) $$ H9
  iintro H9
  iapply (startWhole c arg9 arg4 _ (Shape.numel_pos (by decide)) harg9.set_eq_univ harg4.set_eq_univ) $$ [H9 H4 Hs]
  · isplitl [H9]; · iexact H9
    isplitl [H4]; · iexact H4
    iexact Hs
  iintro F
  iapply (await c arg9 arg4 _ rfl) $$ [F HW]
  · isplitl [F]; · iexact F
    iexact HW
  iintro ⟨⟨H4, H9⟩, Hs, HW⟩
  iapply (le_wp_ret _ _ _ _ _)
  isplitl [HW]; · iexact HW
  isplitl [H0]; · iexact H0
  isplitl [H1]; · iexact H1
  isplitl [H3]; · iexact H3
  isplitl [H4]; · iexact H4
  isplitl [HB]; · iexact HB
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [Hs0]; · iexact Hs0
  isplitl [Hs1]; · iexact Hs1
  isplitl [Hs2]; · iexact Hs2
  iexact Hs

end Body

end Cert.KernelIdeal.Hand

end
-- ==== Proof.ValueI.lean ====
module

public import proofs.«01_k».proof.Proof.BodyI
public import proofs.«01_k».proof.Proof.Blocks

@[expose] public section

set_option synthInstance.maxSize 4096

noncomputable section

namespace Cert.KernelIdeal.Hand

open Cert.Base Cert.KernelIdeal Cert.KernelIdeal.Gen
open Idealize.ShloMosaic Idealize.ShloMosaic.TcCoe

variable {F : FTy → Type} [FloatOps F]

/-! ## The result as a function of the operands

The buffers the kernel works in hold anything at first; what the kernel leaves in the result buffer depends on the
operands alone. Here is that result as a function of the operands, and the proof that it is what the run leaves. -/

section Fun
variable (X : Vec F S48x14336 .fp8e4m3) (C : Vec F S48x112 .i8) (W : Vec F S4096x14336 .fp8e4m3) (WS : Vec F S8x112 .i32)

/-- Tile `g` of the activations. -/
def vX (g : Fin 112) : Vec F S48x128 .fp8e4m3 := fun z => X ((Rect.unit (s := S48x14336) ![0, 128 * g.val] S48x128.size (inbX g)).emb z)
/-- Tile `i` of panel `k` is one of the 112. -/
theorem tile_lt (k : Fin k0_t1_loop.trips) (i : Fin 4) : 4 * k.val + i.val < 112 := by
  have := k.isLt; have h := trips_eq; omega
/-- The column group of tile `i` of panel `k`. -/
def grp (k : Fin k0_t1_loop.trips) (i : Fin 4) : Fin 112 := ⟨4 * k.val + i.val, tile_lt k i⟩
/-- Tile `i` of panel `k` of the scaled activations. -/
def vTile (k : Fin k0_t1_loop.trips) (i : Fin 4) : Vec F S48x128 .bf16 := tileX (scaleX C) (grp k i) (vX X (grp k i))
/-- The scale word of tile `i` of panel `k`, row `r`. -/
def vS (k : Fin k0_t1_loop.trips) (r : Fin 8) (i : Fin 4) : Elt F .i32 :=
  WS ((Rect.unit (s := S8x112) (wsOff k r.val i.val) S1x1.size (inbWs k r i)).emb (Shape.Idx.first (s := S1x1) (by rw [numel1_S1x1]; exact Nat.one_pos)))
/-- A row of strip `j` is a row of the weights. -/
theorem row_lt4096 (j : Fin 16) (z : S256x512.Idx) : 256 * j.val + (z 0).val < 4096 := by
  have h : (z 0).val < 256 := (z 0).isLt
  have := j.isLt; omega
/-- A column of panel `k` is a column of the weights. -/
theorem col_lt14336 (k : Fin k0_t1_loop.trips) (z : S256x512.Idx) : 512 * k.val + (z 1).val < 14336 := by
  have h : (z 1).val < 512 := (z 1).isLt
  have := k.isLt; have h' := trips_eq; omega
/-- Strip `j` of panel `k` of the weights. -/
def vW (k : Fin k0_t1_loop.trips) (j : Fin 16) : Vec F S256x512 .fp8e4m3 := fun z =>
  W (ValueIdx.ix2 ⟨256 * j.val + (z 0).val, row_lt4096 j z⟩ ⟨512 * k.val + (z 1).val, col_lt14336 k z⟩)
/-- Panel `k`'s activations scaled for the output rows whose scale lies `sh` bits up in the words of row `r`. -/
def vBand (k : Fin k0_t1_loop.trips) (r : Fin 8) (sh : BitVec 32) : FVec F S48x512 .bf16 :=
  band sh (vTile X C k 0) (vTile X C k 1) (vTile X C k 2) (vTile X C k 3) (vS WS k r 0) (vS WS k r 1) (vS WS k r 2) (vS WS k r 3)
/-- Panel `k`'s product with strip `j`. -/
def vDot (k : Fin k0_t1_loop.trips) (j : Fin 16) : FVec F S128x256 .f32 :=
  strip2 (vBand X C WS k ⟨j.val / 2, row_lt j⟩ (BitVec.ofNat 32 (16 * (j.val % 2))))
    (vBand X C WS k ⟨j.val / 2, row_lt j⟩ (BitVec.ofNat 32 (16 * (j.val % 2) + 8))) (vW W k j)

/-- Tile `n` of the accumulator. -/
abbrev accR (n : Fin 32) : Rect S48x4096 := Rect.unit (s := S48x4096) ![0, 128 * n.val] S48x128.size (inbA n)

/-- The accumulator with the products `d` of strip `j` added. -/
def vUpd (d : FVec F S128x256 .f32) (j : Fin 16) (A : Vec F S48x4096 .f32) : Vec F S48x4096 .f32 :=
  ovr (accR ⟨2 * j.val + 1, colB_lt j⟩) (ovr (accR ⟨2 * j.val, colA_lt j⟩) A (addA (fun z => A ((accR ⟨2 * j.val, colA_lt j⟩).emb z)) d))
    (addB (fun z => (ovr (accR ⟨2 * j.val, colA_lt j⟩) A (addA (fun z => A ((accR ⟨2 * j.val, colA_lt j⟩).emb z)) d))
      ((accR ⟨2 * j.val + 1, colB_lt j⟩).emb z)) d)
/-- The accumulator at the end. -/
def vAcc : Vec F S48x4096 .f32 :=
  upTo (fun k A => upTo (fun j => vUpd (vDot X C W WS k j) j) A 16) (k0_pay154 (F := F)) 28
/-- The result. -/
def vOut : Vec F S48x4096 .bf16 := k0_pay4 (vAcc X C W WS)
end Fun

/-! ## It is what the run leaves -/

section Reads
variable (c : Dev nD)
  (arg0 : Memref sig .tc .hbm S48x14336 .fp8e4m3) (arg1 : Memref sig .tc .hbm S48x112 .i8)
  (arg2 : Memref sig .tc .hbm S4096x14336 .fp8e4m3) (arg3 : Memref sig .tc .hbm S8x112 .i32)
  (arg4 : Memref sig .tc .hbm S48x4096 .bf16)
  (arg5 : Memref sig .tc .vmem S4096x14464 .fp8e4m3) (arg6 : Memref sig .tc .vmem S48x14336 .bf16)
  (arg7 : Memref sig .tc .vmem S48x14336 .fp8e4m3) (arg8 : Memref sig .tc .vmem S48x4096 .f32)
  (arg9 : Memref sig .tc .vmem S48x4096 .bf16) (arg10 : Memref sig .tc .vmem S48x112 .i8)
  (arg11 : Memref sig .tc .smem S8x112 .i32)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-- Two different tiles of the activations share no element. -/
theorem tiles_apart (g g' : Fin 112) (h : g ≠ g') (x y : S48x128.Idx) :
    (Rect.unit (s := S48x14336) ![0, 128 * g.val] S48x128.size (inbX g)).emb x
      ≠ (Rect.unit (s := S48x14336) ![0, 128 * g'.val] S48x128.size (inbX g')).emb y := by
  intro he
  have h1 := congrArg Fin.val (congrFun he 1)
  rw [emb_val, emb_val] at h1
  have hx : (x 1).val < 128 := (x 1).isLt
  have hy : (y 1).val < 128 := (y 1).isLt
  have h2 : 128 * g.val + (x 1).val = 128 * g'.val + (y 1).val := h1
  exact h (Fin.ext (by omega))

/-- After the first `n` tiles are scaled, each of them reads its scaled activations, whatever was there before. -/
theorem read_updX (xs : FVec F S48x112 .bf16) (x : Buf (Elt F) (arg7.view.loc (c : Thread nD τ))) : ∀ (n : Nat) (hn : n ≤ 112) (g : Fin 112), g.val < n →
    (fun z => arg6.view.read (Elt F) (upTo (updX c arg6 arg7 xs x) f6 n) ((Rect.unit (s := S48x14336) ![0, 128 * g.val] S48x128.size (inbX g)).emb z))
      = tileX xs g (vX (F := F) (arg7.view.read (Elt F) x) g)
  | 0, _, g, h => absurd h (Nat.not_lt_zero _)
  | n + 1, hn, g, h => by
    have e := upTo_succ (updX c arg6 arg7 xs x) f6 ⟨n, hn⟩
    funext z
    rw [e]
    unfold updX
    rw [read_access_write]
    by_cases hg : g = ⟨n, hn⟩
    · subst hg
      rw [ovr_emb]
      rfl
    · rw [ovr_not _ _ _ _ (fun y => tiles_apart ⟨n, hn⟩ g (fun h => hg h.symm) y z)]
      have hlt : g.val < n := by
        have : g.val ≠ n := fun h => hg (Fin.ext h)
        omega
      exact congrFun (read_updX xs x n (Nat.le_of_succ_le hn) g hlt) z

/-- Tile `i` of panel `k` of the scaled activations begins at row 0 and the first column of its group. -/
theorem xwOff_eq (k : Fin k0_t1_loop.trips) (i : Fin 4) : xwOff k i.val = ![0, 128 * (grp k i).val] := by
  unfold xwOff grp
  rw [k0_off4_eq]
  show ![0, 512 * k.val + 128 * i.val] = ![0, 128 * (4 * k.val + i.val)]
  congr 2
  omega

/-- The scaled activations the loop reads. -/
theorem xTile_eq (k : Fin k0_t1_loop.trips) (i : Fin 4) :
    xTile c arg6 (c6 c arg0 arg1 arg6 arg7 arg10 f0 f1 f6 f7 f10) k i
      = vTile (F := F) (arg0.view.read (Elt F) f0) (arg1.view.read (Elt F) f1) k i := by
  unfold xTile c6 vTile
  have h := read_updX c arg6 arg7 f6 (scaleX ((arg10.access (Rect.unit (s := S48x112) ![0, 0] S48x112.size inb_S48x112_S48x112_0_0)).read (Elt F) (c10 c arg1 arg10 f1 f10)))
    (c7 c arg0 arg7 f0 f7) 112 le_rfl (grp k i) (grp k i).isLt
  have h7 : arg7.view.read (Elt F) (c7 c arg0 arg7 f0 f7) = arg0.view.read (Elt F) f0 := View.read_write_univ _ _
  have h10 : (arg10.access (Rect.unit (s := S48x112) ![0, 0] S48x112.size inb_S48x112_S48x112_0_0)).read (Elt F) (c10 c arg1 arg10 f1 f10)
      = arg1.view.read (Elt F) f1 := by
    funext y
    rw [read_access]
    show arg10.view.read (Elt F) _ ((Rect.unit (s := S48x112) ![0, 0] S48x112.size _).emb y) = _
    rw [emb_full (s := S48x112)]
    exact congrFun (View.read_write_univ _ _) y
  rw [h7] at h
  rw [h10] at h ⊢
  rw [← h]
  funext z
  rw [read_access]
  exact congrArg _ (emb_congr (s := S48x14336) (size := S48x128.size) (xwOff_eq k i) _ _ z)

/-- The scale words the loop reads. -/
theorem sWord_eq (k : Fin k0_t1_loop.trips) (r : Fin 8) (i : Fin 4) :
    sWord c arg11 (c11 c arg3 arg11 f3 f11) k r i = vS (F := F) (arg3.view.read (Elt F) f3) k r i := by
  unfold sWord vS
  rw [read_access]
  have h : arg11.view.read (Elt F) (c11 c arg3 arg11 f3 f11) = arg3.view.read (Elt F) f3 := View.read_write_univ _ _
  rw [h]

/-- The weights the loop reads. -/
theorem wStrip_eq (k : Fin k0_t1_loop.trips) (j : Fin 16) :
    wStrip c arg2 arg5 f2 f5 k j = vW (F := F) (arg2.view.read (Elt F) f2) k j := by
  unfold wStrip vW
  rw [read_access]
  funext z
  have hz0 : (z 0).val < 256 := (z 0).isLt
  have hz1 : (z 1).val < 512 := (z 1).isLt
  have hj := j.isLt
  have hin : ∀ a, (![256 * j.val, 512 * k.val] : Fin 2 → Nat) a + S256x512.size a ≤ S4096x14464.size a := by
    rw [← wOff_eq]; exact inbW k j
  have e : (Rect.unit (s := S4096x14464) (wOff k j.val) S256x512.size (inbW k j)).emb z
      = (Rect.unit (s := S4096x14464) ![0, 512 * (pan k).val] S4096x512.size (inbW5 (pan k))).emb
          (ValueIdx.ix2 ⟨256 * j.val + (z 0).val, row_lt4096 j z⟩ ⟨(z 1).val, hz1⟩) := by
    rw [emb_congr (s := S4096x14464) (size := S256x512.size) (wOff_eq k j) (inbW k j) hin z]
    funext a
    apply Fin.ext
    rw [emb_val, emb_val]
    match a with
    | ⟨0, _⟩ => show 256 * j.val + (z 0).val = 0 + (256 * j.val + (z 0).val); omega
    | ⟨1, _⟩ => rfl
  show arg5.view.read (Elt F) (buf5 c arg2 arg5 f2 f5 (pan k)) _ = _
  rw [e]
  unfold buf5
  refine (congrFun (read_access_write arg5 (Rect.unit (s := S4096x14464) ![0, 512 * (pan k).val] S4096x512.size (inbW5 (pan k))) f5 _) _).trans ?_
  rw [ovr_emb]
  show arg2.view.read (Elt F) f2 _ = _
  congr 1
  funext a
  apply Fin.ext
  rw [emb_val]
  match a with
  | ⟨0, _⟩ => show 0 + (256 * j.val + (z 0).val) = 256 * j.val + (z 0).val; omega
  | ⟨1, _⟩ => rfl

/-- The products the loop adds. -/
theorem dot2_eq (k : Fin k0_t1_loop.trips) (j : Fin 16) :
    dot2 c arg2 arg5 arg6 arg11 f2 f5 (c6 c arg0 arg1 arg6 arg7 arg10 f0 f1 f6 f7 f10) (c11 c arg3 arg11 f3 f11) k j
      = vDot (F := F) (arg0.view.read (Elt F) f0) (arg1.view.read (Elt F) f1) (arg2.view.read (Elt F) f2) (arg3.view.read (Elt F) f3) k j := by
  unfold dot2 vDot bandAt vBand
  simp only [xTile_eq, sWord_eq, wStrip_eq]

/-- The accumulator at the end, as read. -/
theorem read_c8' :
    arg8.view.read (Elt F) (c8' c arg0 arg1 arg2 arg3 arg5 arg6 arg7 arg8 arg10 arg11 f0 f1 f2 f3 f5 f6 f7 f8 f10 f11)
      = vAcc (F := F) (arg0.view.read (Elt F) f0) (arg1.view.read (Elt F) f1) (arg2.view.read (Elt F) f2) (arg3.view.read (Elt F) f3) := by
  unfold c8' vAcc
  rw [upTo_map (arg8.view.read (Elt F)) _ (fun k A => upTo (fun j => vUpd (vDot (F := F) (arg0.view.read (Elt F) f0) (arg1.view.read (Elt F) f1) (arg2.view.read (Elt F) f2) (arg3.view.read (Elt F) f3) k j) j) A 16)
    (fun k a => ?_) _ 28 trips_eq.ge]
  · congr 1
    unfold c8
    rw [read_access_write]
    exact ovr_full (s := S48x4096) _ _ _
  · unfold updT
    refine upTo_map (arg8.view.read (Elt F)) _ _ (fun j a => ?_) a 16 le_rfl
    unfold updA vUpd
    simp only [dot2_eq, read_access_write, read_access]
    rfl

/-- The result, as read. -/
theorem read_c4 :
    arg4.view.read (Elt F) (c4 c arg0 arg1 arg2 arg3 arg4 arg5 arg6 arg7 arg8 arg9 arg10 arg11 f0 f1 f2 f3 f4 f5 f6 f7 f8 f9 f10 f11)
      = vOut (F := F) (arg0.view.read (Elt F) f0) (arg1.view.read (Elt F) f1) (arg2.view.read (Elt F) f2) (arg3.view.read (Elt F) f3) := by
  unfold c4 c9 vOut
  rw [View.read_write_univ, read_access_write, read_access]
  refine (ovr_full (s := S48x4096) _ _ _).trans ?_
  rw [read_c8']
  congr 1
  funext y
  show vAcc _ _ _ _ ((Rect.unit (s := S48x4096) ![0, 0] S48x4096.size _).emb y) = _
  rw [emb_full (s := S48x4096)]

end Reads

end Cert.KernelIdeal.Hand

end
-- ==== Proof.RunI.lean ====
module

public import proofs.«01_k».proof.Proof.ValueI
public import proofs.«01_k».proof.Proof.Gen.KernelIdeal.Frame
public import Idealize.ShloMosaic.Lib.Pipeline.FrameValue

@[expose] public section

set_option synthInstance.maxSize 4096

noncomputable section

namespace Cert.KernelIdeal.Hand

open Cert.Base Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

attribute [local irreducible] seqFin

/-! ## The run of the body over whole buffers -/

section Whole
variable (c : Dev nD)
  (arg0 : Memref sig .tc .hbm S48x14336 .fp8e4m3) (harg0 : arg0.IsWhole)
  (arg1 : Memref sig .tc .hbm S48x112 .i8) (harg1 : arg1.IsWhole)
  (arg2 : Memref sig .tc .hbm S4096x14336 .fp8e4m3) (harg2 : arg2.IsWhole)
  (arg3 : Memref sig .tc .hbm S8x112 .i32) (harg3 : arg3.IsWhole)
  (arg4 : Memref sig .tc .hbm S48x4096 .bf16) (harg4 : arg4.IsWhole)
  (arg5 : Memref sig .tc .vmem S4096x14464 .fp8e4m3) (harg5 : arg5.IsWhole)
  (arg6 : Memref sig .tc .vmem S48x14336 .bf16) (harg6 : arg6.IsWhole)
  (arg7 : Memref sig .tc .vmem S48x14336 .fp8e4m3) (harg7 : arg7.IsWhole)
  (arg8 : Memref sig .tc .vmem S48x4096 .f32) (harg8 : arg8.IsWhole)
  (arg9 : Memref sig .tc .vmem S48x4096 .bf16) (harg9 : arg9.IsWhole)
  (arg10 : Memref sig .tc .vmem S48x112 .i8) (harg10 : arg10.IsWhole)
  (arg11 : Memref sig .tc .smem S8x112 .i32) (harg11 : arg11.IsWhole)
  (arg12 : DmaSems sig S3) (arg13 : DmaSems sig S28) (arg14 : DmaSems sig S_)
  (f0 : Buf (Elt F) (arg0.view.loc (c : Thread nD τ)))
  (f1 : Buf (Elt F) (arg1.view.loc (c : Thread nD τ)))
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))

/-- The elements of panel `p` where the weights lie. -/
abbrev set2 (p : Fin 28) : Finset (Idx (arg2.view.loc (c : Thread nD τ))) := (src2 arg2 p).view.set
/-- The elements of panel `p` where the weights are copied to. -/
abbrev set5 (p : Fin 28) : Finset (Idx (arg5.view.loc (c : Thread nD τ))) := (dst5 arg5 p).view.set

/-- Different panels lie apart along the second axis. -/
theorem panels_apart (p p' : Fin 28) (h : p ≠ p') :
    (![0, 512 * p.val] : Fin 2 → Nat) 1 + S4096x512.size 1 ≤ (![0, 512 * p'.val] : Fin 2 → Nat) 1
      ∨ (![0, 512 * p'.val] : Fin 2 → Nat) 1 + S4096x512.size 1 ≤ (![0, 512 * p.val] : Fin 2 → Nat) 1 := by
  have h' : p.val ≠ p'.val := fun e => h (Fin.ext e)
  show 512 * p.val + 512 ≤ 512 * p'.val ∨ 512 * p'.val + 512 ≤ 512 * p.val
  omega

/-- Different panels of the weights share no element, -/
theorem set2_disj (p p' : Fin 28) (h : p ≠ p') : Disjoint (set2 c arg2 p) (set2 c arg2 p') :=
  slices_disj arg2.view _ _ (rects_disj (s := S4096x14336) (inbW2 p) (inbW2 p') 1 (panels_apart p p' h))

/-- nor do the panels of the buffer they are copied to. -/
theorem set5_disj (p p' : Fin 28) (h : p ≠ p') : Disjoint (set5 c arg5 p) (set5 c arg5 p') :=
  slices_disj arg5.view _ _ (rects_disj (s := S4096x14464) (inbW5 p) (inbW5 p') 1 (panels_apart p p' h))

/-- The panels before their copies, from the parts. -/
theorem In_all :
    iprop(bigSep Finset.univ (fun p => (arg2.view.loc (c : Thread nD τ)) ↦[set2 c arg2 p]{fullShare} f2)
        ∗ bigSep Finset.univ (fun p => (arg5.view.loc (c : Thread nD τ)) ↦[set5 c arg5 p]{fullShare} f5)
        ∗ bigSep Finset.univ (fun p => semVal ((c : Thread nD τ), .dma (semW arg13 p)) 0))
      ⊢ bigSep Finset.univ (In c arg2 arg5 arg13 f2 f5) := by
  rw [← bigSep_sep', ← bigSep_sep']
  refine bigSep_mono fun p _ => ?_
  unfold In
  exact Idealize.SL.BI.Entails.refl _

/-- The panels after their copies, in parts. -/
theorem Dn_all :
    bigSep Finset.univ (Dn c arg2 arg5 arg13 f2 f5)
      ⊢ iprop((bigSep Finset.univ (fun p => (arg5.view.loc (c : Thread nD τ)) ↦[set5 c arg5 p]{fullShare} buf5 c arg2 arg5 f2 f5 p)
        ∗ bigSep Finset.univ (fun p => (arg2.view.loc (c : Thread nD τ)) ↦[set2 c arg2 p]{fullShare} f2))
        ∗ bigSep Finset.univ (fun p => semVal ((c : Thread nD τ), .dma (semW arg13 p)) 0)) := by
  rw [← bigSep_sep', ← bigSep_sep']
  refine bigSep_mono fun p _ => ?_
  unfold Dn dl
  exact Idealize.SL.BI.Entails.refl _

/-- The body's run, every buffer held whole. -/
theorem wp_whole :
    iprop(idle (Val := Elt F) c ∗ held c arg0 f0 ∗ held c arg1 f1 ∗ held c arg2 f2 ∗ held c arg3 f3 ∗ held c arg4 f4
        ∗ held c arg5 f5 ∗ held c arg6 f6 ∗ held c arg7 f7 ∗ held c arg8 f8 ∗ held c arg9 f9 ∗ held c arg10 f10 ∗ held c arg11 f11
        ∗ bigSep Finset.univ (fun p => semVal ((c : Thread nD τ), .dma (semW arg13 p)) 0)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)
      ⊢ wpk c (body arg0 harg0 arg1 harg1 arg2 harg2 arg3 harg3 arg4 harg4 arg5 harg5 arg6 harg6 arg7 harg7 arg8 harg8 arg9 harg9 arg10 harg10 arg11 harg11 arg12 arg13 arg14)
        (fun _ => iprop(idle (Val := Elt F) c ∗ held c arg0 f0 ∗ held c arg1 f1 ∗ held c arg2 f2 ∗ held c arg3 f3
        ∗ held c arg4 (c4 c arg0 arg1 arg2 arg3 arg4 arg5 arg6 arg7 arg8 arg9 arg10 arg11 f0 f1 f2 f3 f4 f5 f6 f7 f8 f9 f10 f11)
        ∗ (∃ f, held c arg5 f) ∗ (∃ f, held c arg6 f) ∗ (∃ f, held c arg7 f) ∗ (∃ f, held c arg8 f) ∗ (∃ f, held c arg9 f) ∗ (∃ f, held c arg10 f) ∗ (∃ f, held c arg11 f)
        ∗ bigSep Finset.univ (fun p => semVal ((c : Thread nD τ), .dma (semW arg13 p)) 0)
        ∗ semVal ((c : Thread nD τ), .dma (semA arg12 0 inb_S3_S1_0)) 0 ∗ semVal ((c : Thread nD τ), .dma (semA arg12 1 inb_S3_S1_1)) 0
        ∗ semVal ((c : Thread nD τ), .dma (semA arg12 2 inb_S3_S1_2)) 0 ∗ semVal ((c : Thread nD τ), .dma arg14.sem) 0)) := by
  iintro ⟨HW, H0, H1, H2, H3, H4, H5, H6, H7, H8, H9, H10, H11, HB, Hs0, Hs1, Hs2, Hs⟩
  ihave H2 := (cut (set2 c arg2) (set2_disj c arg2) f2) $$ H2
  icases H2 with ⟨H2, R2⟩
  ihave H5 := (cut (set5 c arg5) (set5_disj c arg5) f5) $$ H5
  icases H5 with ⟨H5, R5⟩
  iapply (wp_wand _ _ _) $$ [HW H0 H1 H2 H3 H4 H5 H6 H7 H8 H9 H10 H11 HB Hs0 Hs1 Hs2 Hs]
  · iapply (wp_body c arg0 harg0 arg1 harg1 arg2 harg2 arg3 harg3 arg4 harg4 arg5 harg5 arg6 harg6 arg7 harg7 arg8 harg8 arg9 harg9 arg10 harg10 arg11 harg11 arg12 arg13 arg14 f0 f1 f2 f3 f4 f5 f6 f7 f8 f9 f10 f11)
      $$ [HW H0 H1 H2 H3 H4 H5 H6 H7 H8 H9 H10 H11 HB Hs0 Hs1 Hs2 Hs]
    isplitl [HW]; · iexact HW
    isplitl [H0]; · iexact H0
    isplitl [H1]; · iexact H1
    isplitl [H3]; · iexact H3
    isplitl [H4]; · iexact H4
    isplitl [H2 H5 HB]
    · iapply (In_all c arg2 arg5 arg13 f2 f5) $$ [H2 H5 HB]
      isplitl [H2]; · iexact H2
      isplitl [H5]; · iexact H5
      iexact HB
    isplitl [H6]; · iexact H6
    isplitl [H7]; · iexact H7
    isplitl [H8]; · iexact H8
    isplitl [H9]; · iexact H9
    isplitl [H10]; · iexact H10
    isplitl [H11]; · iexact H11
    isplitl [Hs0]; · iexact Hs0
    isplitl [Hs1]; · iexact Hs1
    isplitl [Hs2]; · iexact Hs2
    iexact Hs
  iintro %u ⟨HW, H0, H1, H3, H4, HB, H6, H7, H8, H9, H10, H11, Hs0, Hs1, Hs2, Hs⟩
  ihave HB := (Dn_all c arg2 arg5 arg13 f2 f5) $$ HB
  icases HB with ⟨⟨H5, H2⟩, HB⟩
  ihave H2 := (uncut (set2 c arg2) (set2_disj c arg2) f2) $$ [H2 R2]
  · isplitl [H2]; · iexact H2
    iexact R2
  ihave H5 := (uncut_exists (set5 c arg5) (set5_disj c arg5) (buf5 c arg2 arg5 f2 f5) f5) $$ [H5 R5]
  · isplitl [H5]; · iexact H5
    iexact R5
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HB]; · iexact HB
  isplitl [Hs0]; · iexact Hs0
  isplitl [Hs1]; · iexact Hs1
  isplitl [Hs2]; · iexact Hs2
  iexact Hs

end Whole

/-! ## The program's run -/

variable (m : (ℓ : Loc nD τ sig) → Buf (Elt F) ℓ) (ρ : Dev nD → PrngReg)

set_option maxHeartbeats 800000 in
/-- The program up to the kernel: the host operations, then the kernel. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The semaphores the kernel uses. -/
abbrev osem0 : Fin 4 ⊕ Fin 28 → SemLoc sig :=
  Sum.elim (![.dma (semA cc0_scratch7 0 inb_S3_S1_0), .dma (semA cc0_scratch7 1 inb_S3_S1_1), .dma (semA cc0_scratch7 2 inb_S3_S1_2), .dma cc0_scratch9.sem] : Fin 4 → SemLoc sig)
    (fun p => .dma (semW cc0_scratch8 p))
/-- The kernel's semaphores are distinct and none of them is the pipeline's. -/
theorem ownSemFacts0 : Pipeline.OwnSemFacts (cfg0.spec) osem0 := by decide +kernel
/-- The kernel's semaphores at zero, written out: three of the small copies, the output's, and one for each panel. -/
theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), .dma (semA cc0_scratch7 0 inb_S3_S1_0)) 0 ∗ semVal ((c : Thread nD τ), .dma (semA cc0_scratch7 1 inb_S3_S1_1)) 0
        ∗ semVal ((c : Thread nD τ), .dma (semA cc0_scratch7 2 inb_S3_S1_2)) 0 ∗ semVal ((c : Thread nD τ), .dma cc0_scratch9.sem) 0)
        ∗ bigSep Finset.univ (fun p => semVal ((c : Thread nD τ), .dma (semW cc0_scratch8 p)) 0)) := by
  unfold Pipeline.ownSems0
  rw [bigSep_univ_sum, BI.bigSep_eq_bigSepL_of_eq [(0 : Fin 4), 1, 2, 3] (by decide) (by decide)]
  rfl

/-- The operands the kernel reads. -/
def H0 : Finset (Ref sig .tc) := {main_v0, main_v1, main_arg2, main_v4}
/-- The result the kernel writes. -/
def R0 : Finset (Ref sig .tc) := {main_v5}
/-- The operands are among the buffers that no window stages. -/
theorem H0_sub : H0 ⊆ Pipeline.restRefs sig (cfg0.spec) := by decide
/-- The result is among them too, and is no operand. -/
theorem R0_sub : R0 ⊆ Pipeline.restRefs sig (cfg0.spec) \ H0 := by decide

/-- The result buffer's contents at the end. -/
def outV (c : Dev nD) : Buf (Elt F) ((c : Thread nD τ).loc main_v5) :=
  vOut (F := F) (V m c main_v0) (V m c main_v1) (V m c main_arg2) (V m c main_v4)
/-- The buffers' contents at the end. -/
def G (c : Dev nD) : (b : Ref sig .tc) → Buf (Elt F) ((c : Thread nD τ).loc b) :=
  Function.update (V m c) main_v5 (outV m c)
/-- At the end the result buffer holds the function of the operands. -/
theorem G_main_v5 (c : Dev nD) : G m c main_v5 = outV m c := Function.update_self _ _ _

/-- The operands' ownership, written out. -/
theorem hbmPts0_eq (c : Dev nD) :
    (bigSep H0 (fun b => ((c : Thread nD τ).loc b) ↦{fullShare} V m c b) : sProp 𝕄)
      = iprop(held c (Memref.whole main_v0) (V m c main_v0) ∗ held c (Memref.whole main_v1) (V m c main_v1)
        ∗ held c (Memref.whole main_arg2) (V m c main_arg2) ∗ held c (Memref.whole main_v4) (V m c main_v4)) := by
  rw [BI.bigSep_eq_bigSepL_of_eq [main_v0, main_v1, main_arg2, main_v4] (by decide) (by decide)]; rfl

/-- The result's ownership, written out. -/
theorem routed0_eq (c : Dev nD) (W : (b : Ref sig .tc) → Buf (Elt F) ((c : Thread nD τ).loc b)) :
    (Pipeline.routed R0 c W : sProp 𝕄) = held c (Memref.whole main_v5) (W main_v5) := by
  unfold Pipeline.routed
  rw [BI.bigSep_eq_bigSepL_of_eq [main_v5] (by decide) (by decide)]; rfl

/-- The proof data: the kernel stages no window; its result is `V`'s before it runs and `G`'s after. -/
def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRG osem0 (cfg0.spec) H0 R0 (V m) (if t.val = 0 then V m else G m) c
  q _ := fullShare
  owed _ := 0

/-- The proof data take the windows' arrays from the memory before the kernel. -/
theorem A_eq (c : Dev nD) (w : Fin cfg0.W) : (dats m 0 c).A w = V m c (Pipeline.arrRef (cfg0.spec) w) := by
  dsimp only [dats]

/-- What the run leaves in the result buffer, whatever the scratch buffers held. -/
theorem c4_eq (c : Dev nD)
  (f4 : Buf (Elt F) ((Memref.whole main_v5 : Memref sig .tc .hbm S48x4096 .bf16).view.loc (c : Thread nD τ)))
  (f5 : Buf (Elt F) ((Memref.whole cc0_scratch0 : Memref sig .tc .vmem S4096x14464 .fp8e4m3).view.loc (c : Thread nD τ)))
  (f6 : Buf (Elt F) ((Memref.whole cc0_scratch1 : Memref sig .tc .vmem S48x14336 .bf16).view.loc (c : Thread nD τ)))
  (f7 : Buf (Elt F) ((Memref.whole cc0_scratch2 : Memref sig .tc .vmem S48x14336 .fp8e4m3).view.loc (c : Thread nD τ)))
  (f8 : Buf (Elt F) ((Memref.whole cc0_scratch3 : Memref sig .tc .vmem S48x4096 .f32).view.loc (c : Thread nD τ)))
  (f9 : Buf (Elt F) ((Memref.whole cc0_scratch4 : Memref sig .tc .vmem S48x4096 .bf16).view.loc (c : Thread nD τ)))
  (f10 : Buf (Elt F) ((Memref.whole cc0_scratch5 : Memref sig .tc .vmem S48x112 .i8).view.loc (c : Thread nD τ)))
  (f11 : Buf (Elt F) ((Memref.whole cc0_scratch6 : Memref sig .tc .smem S8x112 .i32).view.loc (c : Thread nD τ))) :
    c4 (F := F) c (Memref.whole main_v0) (Memref.whole main_v1) (Memref.whole main_arg2) (Memref.whole main_v4) (Memref.whole main_v5)
      (Memref.whole cc0_scratch0) (Memref.whole cc0_scratch1) (Memref.whole cc0_scratch2) (Memref.whole cc0_scratch3) (Memref.whole cc0_scratch4)
      (Memref.whole cc0_scratch5) (Memref.whole cc0_scratch6) (V m c main_v0) (V m c main_v1) (V m c main_arg2) (V m c main_v4)
      f4 f5 f6 f7 f8 f9 f10 f11 = outV m c :=
  read_c4 (F := F) c (Memref.whole main_v0) (Memref.whole main_v1) (Memref.whole main_arg2) (Memref.whole main_v4) (Memref.whole main_v5)
      (Memref.whole cc0_scratch0) (Memref.whole cc0_scratch1) (Memref.whole cc0_scratch2) (Memref.whole cc0_scratch3) (Memref.whole cc0_scratch4)
      (Memref.whole cc0_scratch5) (Memref.whole cc0_scratch6) (V m c main_v0) (V m c main_v1) (V m c main_arg2) (V m c main_v4)
      f4 f5 f6 f7 f8 f9 f10 f11

set_option maxHeartbeats 1600000 in
/-- The one step of the kernel, from its buffers and semaphores as it finds them, leaves the result at the function of the operands and the rest as it was. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  have ht : t.val = 0 := by rw [fin_N0 t]; rfl
  rw [show (dats m 0 c).Φ t.castSucc = Pipeline.ΦDRG osem0 (cfg0.spec) H0 R0 (V m) (V m) c from by
    unfold dats; exact congrArg (fun W => Pipeline.ΦDRG osem0 (cfg0.spec) H0 R0 (V m) W c) (if_pos ht)]
  rw [show (dats m 0 c).Φ t.succ = Pipeline.ΦDRG osem0 (cfg0.spec) H0 R0 (V m) (G m) c from by
    unfold dats; exact congrArg (fun W => Pipeline.ΦDRG osem0 (cfg0.spec) H0 R0 (V m) W c) (if_neg (Nat.succ_ne_zero _))]
  rw [Pipeline.ΦDRG_eq, Pipeline.ΦDRG_eq, scopedRest0_eq, ownSems00_eq, hbmPts0_eq, routed0_eq, routed0_eq, G_main_v5]
  unfold Dat.owesAt Pipeline.owesWithin
  rw [show (dats m 0 c).owed t.castSucc = 0 from rfl, show (dats m 0 c).owed t.succ = 0 from rfl]
  unfold bodyAt0
  rw [body_eq]
  iintro ⟨⟨⟨⟨%g5, H5⟩, ⟨%g6, H6⟩, ⟨%g7, H7⟩, ⟨%g8, H8⟩, ⟨%g9, H9⟩, ⟨%g10, H10⟩, ⟨%g11, H11⟩⟩, Hg, ⟨⟨Hs0, Hs1, Hs2, Hs⟩, HB⟩, ⟨H0, H1, H2, H3⟩, H4⟩, ⟨%W, -, HW⟩⟩
  iapply (wp_wand _ _ _) $$ [HW H0 H1 H2 H3 H4 H5 H6 H7 H8 H9 H10 H11 HB Hs0 Hs1 Hs2 Hs]
  · iapply (wp_whole c (Memref.whole main_v0) (Memref.isWhole_whole _) (Memref.whole main_v1) (Memref.isWhole_whole _) (Memref.whole main_arg2) (Memref.isWhole_whole _) (Memref.whole main_v4) (Memref.isWhole_whole _) (Memref.whole main_v5) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
      cc0_scratch7 cc0_scratch8 cc0_scratch9 (V m c main_v0) (V m c main_v1) (V m c main_arg2) (V m c main_v4) (V m c main_v5) g5 g6 g7 g8 g9 g10 g11)
      $$ [HW H0 H1 H2 H3 H4 H5 H6 H7 H8 H9 H10 H11 HB Hs0 Hs1 Hs2 Hs]
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HB]; · iexact HB
    isplitl [Hs0]; · iexact Hs0
    isplitl [Hs1]; · iexact Hs1
    isplitl [Hs2]; · iexact Hs2
    iexact Hs
  iintro %u H
  rw [c4_eq m c]
  icases H with ⟨⟨%W', HW⟩, H0, H1, H2, H3, H4, H5, H6, H7, H8, H9, H10, H11, HB, Hs0, Hs1, Hs2, Hs⟩
  isplitr [HW]
  · isplitl [H5 H6 H7 H8 H9 H10 H11]
    · isplitl [H5]; · iexact H5
      isplitl [H6]; · iexact H6
      isplitl [H7]; · iexact H7
      isplitl [H8]; · iexact H8
      isplitl [H9]; · iexact H9
      isplitl [H10]; · iexact H10
      iexact H11
    isplitl [Hg]; · iexact Hg
    isplitl [HB Hs0 Hs1 Hs2 Hs]
    · isplitl [Hs0 Hs1 Hs2 Hs]
      · isplitl [Hs0]; · iexact Hs0
        isplitl [Hs1]; · iexact Hs1
        isplitl [Hs2]; · iexact Hs2
        iexact Hs
      iexact HB
    isplitl [H0 H1 H2 H3]
    · isplitl [H0]; · iexact H0
      isplitl [H1]; · iexact H1
      isplitl [H2]; · iexact H2
      iexact H3
    iexact H4
  iexists W'
  isplitr
  · ipureintro; exact fun _ _ => Or.inl trivial
  iexact HW

/-- The procedure that a step calls is the kernel's body. -/
theorem defs₀_row (t : Fin cfg0.N) :
    defs₀ (F := F) .tc cfg0.body (cfg0.bodyArgs t (cfg0.slots t)) = bodyAt0 t := by
  unfold defs₀; rw [Defs.onTc_tc]

/-- The kernel's body meets its specification at every step. -/
theorem body_obligation (c : Dev nD) : BodyObligation (dats (F := F) m 0 c) (defs₀ (F := F)) Variants.none () Set.univ := fun t => by
  rw [defs₀_row]
  have e : ∀ Φ : Fin cfg0.W → sProp 𝕄, bigSep Finset.univ Φ = iprop(emp) := fun Φ => by
    rw [show (Finset.univ : Finset (Fin cfg0.W)) = ∅ from rfl, bigSep_empty]; rfl
  rw [e, e]
  refine triple_restated (sound_body m c t) rfl ?_ ?_
  · iintro ⟨H, Hw, -⟩
    isplitl [H]; · iexact H
    iexact Hw
  · intro _
    iintro ⟨H, Hw⟩
    isplitl [H]; · iexact H
    isplitl [Hw]; · iexact Hw
    iempintro

set_option backward.isDefEq.respectTransparency.types false in
/-- The program runs; at the end its result is `G`'s, everything else is as the kernel found it, every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- The program leaves its arguments as they were, its result at the function of the operands, and every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = outV m c)
      ∧ r.2.sem = fun _ => 0) :=
  (θ_run defs _ _).mono (fun _ h => ⟨fun c => ⟨⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩,
      (h.1.written c (by decide : main_v5 ∈ R0)).trans (G_main_v5 m c)⟩, h.2⟩) (run_main m ρ)

end Cert.KernelIdeal.Hand

end
-- ==== Proof.Scales.lean ====
module

public import Idealize.ShloMosaic.Lib.ValueIdx
public import Idealize.ShloMosaic.Lib.BitcastPair
public import Idealize.ShloMosaic.Lib.BitcastConvert
public import Idealize.ShloMosaic.Lib.MatmulPlain

@[expose] public section

noncomputable section

namespace Cert.Eq

open Idealize.ShloMosaic

/-! ## What a scale's code stands for -/

/-- The power of two that the scale code `s` stands for: two to the code less 127. -/
def dec (s : BitVec 8) : EReal := ((Real.rpow 2 ((s.toNat : ℝ) - 127) : ℝ) : EReal)

/-- A code that is the exponent of a normal float. -/
def Ok (s : BitVec 8) : Prop := 1 ≤ s.toNat ∧ s.toNat ≤ 254

/-- A pattern of no sign, no fraction and a normal exponent reads as the power of two of its exponent less the bias. -/
theorem ieee_pow (m : Nat) {w : Nat} (b : BitVec w) (s : BitVec 8) (hs : Ok s) (hn : b.extractLsb' (8 + m) 1 = 0#1)
    (he : b.extractLsb' m 8 = s) (hf : b.extractLsb' 0 m = 0#m) : Ideal.ieee 8 m b = dec s := by
  obtain ⟨h1, h2⟩ := hs
  unfold Ideal.ieee dec
  rw [hn, he, hf]
  have e1 : ¬ s.toNat = 2 ^ 8 - 1 := by omega
  have e2 : ¬ s.toNat = 0 := by omega
  simp only [e1, e2, if_false]
  congr 1
  have : (0#1 == 1#1) = false := rfl
  rw [this]
  have h0 : (0#m).toNat = 0 := by simp
  rw [h0]
  simp only [Bool.false_eq_true, if_false, one_mul, Nat.add_zero]
  have e : Real.rpow 2 ((s.toNat : ℝ) - 127) = (2 : ℝ) ^ ((s.toNat : ℤ) - 127) := by
    show (2 : ℝ) ^ ((s.toNat : ℝ) - 127) = _
    rw [← Real.rpow_intCast]
    push_cast
    rfl
  rw [e, Nat.cast_pow, Nat.cast_ofNat, ← zpow_natCast, ← zpow_add₀ (by norm_num)]
  congr 1
  norm_num

/-- The code shifted to the exponent of an f32 pattern reads as its power of two. -/
theorem read_f32 (s : BitVec 8) (hs : Ok s) : Ideal.ofBits .f32 (IntOp.shli .vector (s.setWidth 32) 23#32) = dec s := by
  refine ieee_pow 23 (w := 32) _ s hs ?_ ?_ ?_
  · clear hs; revert s; decide +kernel
  · clear hs; revert s; decide +kernel
  · clear hs; revert s; decide +kernel

/-- The word that holds a code at the exponents of two bf16 patterns. -/
def pair (c : BitVec 32) : BitVec 32 := Scalar.ori (Scalar.shli c 23#32) (Scalar.shli c 7#32)

/-- Either half of that word reads as the code's power of two. -/
theorem read_bf16 (s : BitVec 8) (hs : Ok s) (h : Nat) (hh : h < 2) :
    Ideal.ofBits .bf16 ((pair (s.setWidth 32)).extractLsb' (16 * h) 16) = dec s := by
  have H : ∀ h : Fin 2, ∀ s : BitVec 8, ((pair (s.setWidth 32)).extractLsb' (16 * h.val) 16).extractLsb' (8 + 7) 1 = 0#1
      ∧ ((pair (s.setWidth 32)).extractLsb' (16 * h.val) 16).extractLsb' 7 8 = s
      ∧ ((pair (s.setWidth 32)).extractLsb' (16 * h.val) 16).extractLsb' 0 7 = 0#7 := by decide +kernel
  obtain ⟨a, b, c⟩ := H ⟨h, hh⟩ s
  exact ieee_pow 7 (w := 16) _ s hs a b c

/-- The reference's reading of a code: its integer less 127, to the power of two. -/
theorem read_exp2 (s : BitVec 8) :
    Ideal.exp2 (((((s.setWidth 32).toInt : ℝ) : EReal)) - Ideal.ofBits .f32 0x42FE0000#32) = dec s := by
  have h127 : Ideal.ofBits .f32 0x42FE0000#32 = ((127 : ℝ) : EReal) := by
    simp [Ideal.ofBits, Ideal.ieee, -EReal.coe_mul]; norm_num
  have hi : (s.setWidth 32).toInt = (s.toNat : ℤ) := by revert s; decide +kernel
  rw [h127, hi, ← EReal.coe_sub, Ideal.exp2_coe]
  unfold dec
  push_cast
  rfl

/-! ## A code's place in a word of four -/

/-- Byte `p` of a word, as the kernel takes it. -/
def byteOf (w sh : BitVec 32) : BitVec 32 := Scalar.andi (Scalar.shrui w sh) 255#32

/-- Bit `q` of byte `p` of a word is the word's bit `8 p + q`, for `q` below 8; the bits above are zero. -/
theorem byte_bits (w : BitVec 32) (p : Nat) (hp : p < 4) (q : Nat) (hq : q < 32) :
    (byteOf w (BitVec.ofNat 32 (8 * p))).getLsbD q = (decide (q < 8) && w.getLsbD (8 * p + q)) := by
  have e : (BitVec.ofNat 32 (8 * p)).toNat = 8 * p := by simp; omega
  show (IntOp.shrui .scalar w (BitVec.ofNat 32 (8 * p)) &&& 255#32).getLsbD q = _
  unfold IntOp.shrui
  rw [e, if_pos (by omega), BitVec.getLsbD_and, BitVec.ushiftRight_eq', e, BitVec.getLsbD_ushiftRight]
  have H : ∀ q : Fin 32, (255#32).getLsbD q.val = decide (q.val < 8) := by decide
  rw [H ⟨q, hq⟩, Bool.and_comm]

/-- A word put together from four codes gives each code back. -/
theorem byte_word {s t : Shape} (x : IVec t 8) (h : s.SplitsWords 32 t 8) (j : s.Idx) (p : Nat) (hp : p < 4)
    (i : t.Idx) (hi : ∀ b : Fin t.rank, (i b).val = if hb : b.val < s.rank then (j ⟨b.val, hb⟩).val else p) :
    byteOf (Host.bitcastConvertWiden s 32 x h j) (BitVec.ofNat 32 (8 * p)) = (x i).setWidth 32 := by
  apply BitVec.eq_of_getLsbD_eq
  intro q hq
  rw [byte_bits _ p hp q hq, BitVec.getLsbD_setWidth]
  by_cases h8 : q < 8
  · have hlt : 8 * p + q < 32 := by omega
    rw [Host.bitcastConvertWiden_getLsbD _ _ _ _ _ _ hlt]
    have em : (8 * p + q) % 8 = q := by omega
    have ed : (8 * p + q) / 8 = p := by omega
    have ei : h.snoc j ⟨(8 * p + q) / 8, h.div_lt hlt⟩ = i := by
      funext b
      apply Fin.ext
      rw [hi b]
      by_cases hb : b.val < s.rank
      · rw [dif_pos hb, Shape.SplitsWords.snoc_apply_val_of_lt h _ _ b hb]
      · rw [dif_neg hb]
        have e : b = h.axis := Fin.ext (by have := h.rank_eq; have := b.isLt; simp; omega)
        subst e
        rw [h.snoc_axis]
        exact ed
    rw [ei, em]
    simp [h8, hq]
  · simp only [h8, decide_false, Bool.false_and]
    rw [BitVec.getLsbD_of_ge _ _ (by omega)]
    simp

end Cert.Eq

end
-- ==== Proof.Exact.lean ====
module

public import proofs.«01_k».proof.Proof.ValueI
public import proofs.«01_k».proof.Proof.Scales
public import Idealize.ShloMosaic.Lib.Pipeline.Value

@[expose] public section

set_option synthInstance.maxSize 4096

noncomputable section

namespace Cert.KernelIdeal.Hand

open Cert.Base Cert.Eq Cert.KernelIdeal Cert.KernelIdeal.Gen
open Idealize.ShloMosaic Idealize.ShloMosaic.ValueIdx

/-! ## The kernel's steps in exact arithmetic, element by element -/

/-- The activation scales, element by element. -/
theorem scaleX_apply (C : Vec Ideal S48x112 .i8) (i : S48x112.Idx) (h : Ok (C i)) : scaleX (F := Ideal) C i = dec (C i) :=
  read_f32 (C i) h

/-- A scaled activation tile, element by element: the activation times its group's scale. -/
theorem tileX_apply (xs : FVec Ideal S48x112 .bf16) (g : Fin 112) (x : Vec Ideal S48x128 .fp8e4m3) (a : Fin 48) (b : Fin 128) :
    tileX (F := Ideal) xs g x (ix2 a b) = x (ix2 a b) * xs (ix2 a g) := by
  unfold tileX
  rw [shapeCast_apply _ _ (ix2 a b) (ix2 a b) rfl]
  rw [mulf_apply, extf_apply]
  congr 1
  rw [broadcastTo_apply _ _ (ix2 a b) (ix2 a (0 : Fin 1))]
  · rw [shapeCast_apply _ _ (ix2 a (0 : Fin 1)) (ix2 a (0 : Fin 1)) rfl]
    refine extractStridedSlice_apply _ _ _ _ _ (fun d => ?_)
    match d with
    | ⟨0, _⟩ => show a.val = 0 + a.val; omega
    | ⟨1, _⟩ => rfl
  · intro d
    match d with
    | ⟨0, _⟩ => rfl
    | ⟨1, _⟩ => rfl

/-- A weight scale's tile holds the same value everywhere: the power of two of the code at the byte taken. -/
theorem scaleW_apply (sh : BitVec 32) (w : Elt Ideal .i32) (s : BitVec 8) (hs : Ok s) (e : byteOf w sh = s.setWidth 32)
    (i : S48x128.Idx) : scaleW (F := Ideal) sh w i = dec s := by
  have key : ∀ z : S16x128.Idx, (bitcastToFloat .bf16 (bitcast S16x128 16
      (broadcast S8x128 (pair (byteOf w sh)) : IVec S8x128 32) bitcasts_S8x128_w32_S16x128_w16) : FVec Ideal S16x128 .bf16) z = dec s := by
    intro z
    show Ideal.ofBits .bf16 _ = _
    rw [bitcast_32_16]
    show Ideal.ofBits .bf16 ((pair (byteOf w sh)).extractLsb' _ 16) = _
    rw [e]
    exact read_bf16 s hs _ (Nat.mod_lt _ (by decide))
  have hi0 : (i 0).val < 48 := (i 0).isLt
  have hi1 : (i 1).val < 128 := (i 1).isLt
  obtain ⟨n, hn⟩ : ∃ n : Fin 3, n.val = (i 0).val / 16 := ⟨⟨(i 0).val / 16, by omega⟩, rfl⟩
  unfold scaleW
  refine (concatenate_apply_piece (s₁ := S16x128) 0 _ _ i n.val (by simp)
    (bitcastToFloat .bf16 (bitcast S16x128 16 (broadcast S8x128 (pair (byteOf w sh)) : IVec S8x128 32) bitcasts_S8x128_w32_S16x128_w16)) ?_ rfl
    (16 * n.val) ?_ (ix2 ⟨(i 0).val % 16, Nat.mod_lt _ (by decide)⟩ ⟨(i 1).val, hi1⟩) ?_ ?_).trans (key _)
  · fin_cases n <;> rfl
  · fin_cases n <;> rfl
  · intro b hb
    match b with
    | ⟨0, _⟩ => exact absurd rfl hb
    | ⟨1, _⟩ => rfl
  · show 16 * n.val + (i 0).val % 16 = (i 0).val
    omega

/-- A band, element by element: the tile's element times its weight scale. -/
theorem band_apply (sh : BitVec 32) (x : Fin 4 → Vec Ideal S48x128 .bf16) (s : Fin 4 → Elt Ideal .i32) (a : Fin 48) (n : Fin 4) (b : Fin 128)
    (c : Fin 512) (hc : c.val = 128 * n.val + b.val) :
    band (F := Ideal) sh (x 0) (x 1) (x 2) (x 3) (s 0) (s 1) (s 2) (s 3) (ix2 a c) = x n (ix2 a b) * scaleW (F := Ideal) sh (s n) (ix2 a b) := by
  have hb := b.isLt
  unfold band
  refine concatenate_apply_piece (s₁ := S48x128) 1 _ _ (ix2 a c) n.val (by simp)
    (mulf (F := Ideal) (φ := .bf16) (x n) (scaleW (F := Ideal) sh (s n))) ?_ rfl (128 * n.val) ?_ (ix2 a b) ?_ ?_
  · fin_cases n <;> rfl
  · fin_cases n <;> rfl
  · intro d hd
    match d with
    | ⟨0, _⟩ => rfl
    | ⟨1, _⟩ => exact absurd rfl hd
  · exact hc.symm

/-- The product with a strip at a row of the first band. -/
theorem strip2_apply0 (b0 b1 : FVec Ideal S48x512 .bf16) (w : Vec Ideal S256x512 .fp8e4m3) (a : Fin 48) (q : Fin 256) (r : Fin 128) (hr : r.val = a.val) :
    strip2 (F := Ideal) b0 b1 w (ix2 r q) = ∑ c : Fin 512, b0 (ix2 a c) * w (ix2 q c) := by
  unfold strip2
  refine (Ideal.matmul_transposedRhs_apply (M := 128) (K := 512) (N := 256) (φ₁ := .bf16) (φ₂ := .fp8e4m3) none _ _ _ r q).trans ?_
  rw [constant_apply, Ideal.ofBits_zero_f32, zero_add]
  refine Finset.sum_congr rfl fun c _ => ?_
  congr 1
  refine concatenate_apply_piece (s₁ := S48x512) 0 _ _ (ix2 r c) 0 (by simp) b0 rfl rfl 0 rfl (ix2 a c) ?_ ?_
  · intro d hd
    match d with
    | ⟨0, _⟩ => exact absurd rfl hd
    | ⟨1, _⟩ => rfl
  · show 0 + a.val = r.val; omega

/-- The product with a strip at a row of the second band. -/
theorem strip2_apply1 (b0 b1 : FVec Ideal S48x512 .bf16) (w : Vec Ideal S256x512 .fp8e4m3) (a : Fin 48) (q : Fin 256) (r : Fin 128) (hr : r.val = 48 + a.val) :
    strip2 (F := Ideal) b0 b1 w (ix2 r q) = ∑ c : Fin 512, b1 (ix2 a c) * w (ix2 q c) := by
  unfold strip2
  refine (Ideal.matmul_transposedRhs_apply (M := 128) (K := 512) (N := 256) (φ₁ := .bf16) (φ₂ := .fp8e4m3) none _ _ _ r q).trans ?_
  rw [constant_apply, Ideal.ofBits_zero_f32, zero_add]
  refine Finset.sum_congr rfl fun c _ => ?_
  congr 1
  refine concatenate_apply_piece (s₁ := S48x512) 0 _ _ (ix2 r c) 1 (by simp) b1 rfl rfl 48 rfl (ix2 a c) ?_ ?_
  · intro d hd
    match d with
    | ⟨0, _⟩ => exact absurd rfl hd
    | ⟨1, _⟩ => rfl
  · show 48 + a.val = r.val; omega

/-- The first band's addition, element by element. -/
theorem addA_apply (A : Vec Ideal S48x128 .f32) (d : FVec Ideal S128x256 .f32) (a : Fin 48) (b : Fin 128) (r : Fin 128) (q : Fin 256)
    (hr : r.val = a.val) (hq : q.val = b.val) : addA (F := Ideal) A d (ix2 a b) = A (ix2 a b) + d (ix2 r q) := by
  unfold addA
  rw [shapeCast_apply _ _ (ix2 a b) (ix2 a b) rfl, addf_apply]
  congr 1
  refine extractStridedSlice_apply _ _ _ _ _ (fun e => ?_)
  match e with
  | ⟨0, _⟩ => show r.val = 0 + a.val; omega
  | ⟨1, _⟩ => show q.val = 0 + b.val; omega

/-- The second band's addition, element by element. -/
theorem addB_apply (A : Vec Ideal S48x128 .f32) (d : FVec Ideal S128x256 .f32) (a : Fin 48) (b : Fin 128) (r : Fin 128) (q : Fin 256)
    (hr : r.val = 48 + a.val) (hq : q.val = 128 + b.val) : addB (F := Ideal) A d (ix2 a b) = A (ix2 a b) + d (ix2 r q) := by
  unfold addB
  rw [shapeCast_apply _ _ (ix2 a b) (ix2 a b) rfl, addf_apply]
  congr 1
  refine extractStridedSlice_apply _ _ _ _ _ (fun e => ?_)
  match e with
  | ⟨0, _⟩ => show r.val = 48 + a.val; omega
  | ⟨1, _⟩ => show q.val = 128 + b.val; omega

end Cert.KernelIdeal.Hand

end
-- ==== Proof.Total.lean ====
module

public import proofs.«01_k».proof.Proof.Exact

@[expose] public section

set_option synthInstance.maxSize 4096

noncomputable section

namespace Cert.Eq

open Cert.Base

/-- Steps that each add something to one entry add, all together, the sum. -/
theorem upTo_sum {β : Type} {N : Nat} (f : Fin N → β → β) (ev : β → EReal) (g : Fin N → EReal)
    (h : ∀ k A, ev (f k A) = ev A + g k) (b : β) : ∀ (n : Nat) (hn : n ≤ N),
      ev (upTo f b n) = ev b + ∑ k : Fin n, g ⟨k.val, lt_of_lt_of_le k.isLt hn⟩
  | 0, _ => by rw [upTo_zero]; simp
  | n + 1, hn => by
    have e := upTo_succ f b ⟨n, hn⟩
    rw [show upTo f b (n + 1) = _ from e, h, upTo_sum f ev g h b n (Nat.le_of_succ_le hn), Fin.sum_univ_castSucc, add_assoc]
    rfl

/-- A sum in blocks is the whole sum. -/
theorem sum_blocks {n m N : Nat} (h : n * m = N) (f : Fin N → EReal) (hb : ∀ (k : Fin n) (c : Fin m), m * k.val + c.val < N) :
    (∑ k : Fin n, ∑ c : Fin m, f ⟨m * k.val + c.val, hb k c⟩) = ∑ i : Fin N, f i := by
  subst h
  rw [← Fintype.sum_prod_type', ← Equiv.sum_comp finProdFinEquiv f]
  refine Finset.sum_congr rfl (fun x _ => congrArg f (Fin.ext ?_))
  show m * x.1.val + x.2.val = x.2.val + m * x.1.val
  omega

end Cert.Eq

namespace Cert.KernelIdeal.Hand

open Cert.Base Cert.Eq Cert.KernelIdeal Cert.KernelIdeal.Gen
open Idealize.ShloMosaic Idealize.ShloMosaic.ValueIdx

/-! ## The result in exact arithmetic, element by element -/

/-- The element of accumulator tile `n` at row `a`, column `b`. -/
theorem accR_emb (n : Fin 32) (a : Fin 48) (b : Fin 128) (o : Fin 4096) (ho : o.val = 128 * n.val + b.val) :
    (accR n).emb (ix2 a b) = ix2 a o := by
  funext d
  apply Fin.ext
  rw [emb_val]
  match d with
  | ⟨0, _⟩ => show 0 + a.val = a.val; omega
  | ⟨1, _⟩ => exact ho.symm

/-- Outside tile `n` no element of the accumulator is one of the tile's. -/
theorem accR_ne (n : Fin 32) (a : Fin 48) (o : Fin 4096) (ho : o.val / 128 ≠ n.val) (x : (accR n).shape.Idx) :
    (accR n).emb x ≠ ix2 a o := by
  intro he
  have h1 := congrArg Fin.val (congrFun he 1)
  rw [emb_val] at h1
  have hx : (x 1).val < 128 := (x 1).isLt
  have h2 : 128 * n.val + (x 1).val = o.val := h1
  omega

/-- The row of the product that holds output `o` of row `a` is below 128. -/
theorem rowD_lt (a : Fin 48) (o : Fin 4096) : 48 * (o.val % 256 / 128) + a.val < 128 := by omega
/-- The column of the product that holds output `o` is below 256. -/
theorem colD_lt (o : Fin 4096) : o.val % 256 < 256 := Nat.mod_lt _ (by decide)
/-- The entry of a strip's products that belongs to row `a`, output `o`. -/
def ent (d : FVec Ideal S128x256 .f32) (a : Fin 48) (o : Fin 4096) : EReal := d (ix2 ⟨48 * (o.val % 256 / 128) + a.val, rowD_lt a o⟩ ⟨o.val % 256, colD_lt o⟩)

/-- Adding the products of strip `j` changes the entries of its 256 outputs only. -/
theorem vUpd_apply (d : FVec Ideal S128x256 .f32) (j : Fin 16) (A : Vec Ideal S48x4096 .f32) (a : Fin 48) (o : Fin 4096) :
    vUpd (F := Ideal) d j A (ix2 a o) = A (ix2 a o) + (if j.val = o.val / 256 then ent d a o else 0) := by
  have hj := j.isLt
  have ho := o.isLt
  unfold vUpd
  by_cases h1 : o.val / 128 = 2 * j.val + 1
  · have e : (accR ⟨2 * j.val + 1, colB_lt j⟩).emb (ix2 a ⟨o.val % 128, Nat.mod_lt _ (by decide)⟩) = ix2 a o :=
      accR_emb _ a _ o (by show o.val = 128 * (2 * j.val + 1) + o.val % 128; omega)
    rw [if_pos (by omega), ← e, ovr_emb]
    refine (addB_apply _ _ a ⟨o.val % 128, Nat.mod_lt _ (by decide)⟩ ⟨48 * (o.val % 256 / 128) + a.val, rowD_lt a o⟩ ⟨o.val % 256, colD_lt o⟩ ?_ ?_).trans ?_
    · show 48 * (o.val % 256 / 128) + a.val = 48 + a.val; omega
    · show o.val % 256 = 128 + o.val % 128; omega
    · rw [e, ovr_not _ _ _ _ (accR_ne ⟨2 * j.val, colA_lt j⟩ a o (by show o.val / 128 ≠ 2 * j.val; omega))]
      rfl
  · rw [ovr_not _ _ _ _ (accR_ne ⟨2 * j.val + 1, colB_lt j⟩ a o h1)]
    by_cases h0 : o.val / 128 = 2 * j.val
    · have e : (accR ⟨2 * j.val, colA_lt j⟩).emb (ix2 a ⟨o.val % 128, Nat.mod_lt _ (by decide)⟩) = ix2 a o :=
        accR_emb _ a _ o (by show o.val = 128 * (2 * j.val) + o.val % 128; omega)
      rw [if_pos (by omega), ← e, ovr_emb]
      refine (addA_apply _ _ a ⟨o.val % 128, Nat.mod_lt _ (by decide)⟩ ⟨48 * (o.val % 256 / 128) + a.val, rowD_lt a o⟩ ⟨o.val % 256, colD_lt o⟩ ?_ ?_).trans ?_
      · show 48 * (o.val % 256 / 128) + a.val = a.val; omega
      · show o.val % 256 = o.val % 128; omega
      · rfl
    · rw [ovr_not _ _ _ _ (accR_ne ⟨2 * j.val, colA_lt j⟩ a o h0), if_neg (by omega), add_zero]

section
variable (X : Vec Ideal S48x14336 .fp8e4m3) (C : Vec Ideal S48x112 .i8) (W : Vec Ideal S4096x14336 .fp8e4m3) (WS : Vec Ideal S8x112 .i32)
  (S : Vec Ideal S32x112 .i8)

/-- Output `o` belongs to one of the 16 strips. -/
theorem strip_lt (o : Fin 4096) : o.val / 256 < 16 := by omega

/-- The accumulator's entry at the end: the sum over the panels of the products' entries. -/
theorem vAcc_apply (a : Fin 48) (o : Fin 4096) :
    vAcc (F := Ideal) X C W WS (ix2 a o) = ∑ k : Fin 28, ent (vDot (F := Ideal) X C W WS (k.cast trips_eq.symm) ⟨o.val / 256, strip_lt o⟩) a o := by
  unfold vAcc
  rw [upTo_sum (β := Vec Ideal S48x4096 .f32) (N := k0_t1_loop.trips) _ (fun A => A (ix2 a o))
    (fun k => ent (vDot (F := Ideal) X C W WS k ⟨o.val / 256, strip_lt o⟩) a o) (fun k A => ?_) _ 28 trips_eq.ge]
  · have h0 : (k0_pay154 (F := Ideal)) (ix2 a o) = 0 := by
      unfold k0_pay154
      rw [shapeCast_apply _ _ (ix2 a o) (ix2 a o) rfl]
      exact Ideal.ofBits_zero_f32
    rw [h0, zero_add]
    rfl
  · refine (upTo_sum (β := Vec Ideal S48x4096 .f32) _ (fun A => A (ix2 a o))
      (fun j : Fin 16 => if j.val = o.val / 256 then ent (vDot (F := Ideal) X C W WS k j) a o else 0)
      (fun j A => vUpd_apply _ j A a o) A 16 le_rfl).trans ?_
    congr 1
    rw [Finset.sum_eq_single (⟨o.val / 256, strip_lt o⟩ : Fin 16)]
    · exact if_pos rfl
    · intro b _ hb
      exact if_neg (fun h => hb (Fin.ext h))
    · exact fun h => absurd (Finset.mem_univ _) h

/-- The tile offsets into the scale words. -/
theorem wsOff_eq : ∀ (k : Fin k0_t1_loop.trips) (i : Fin 4),
    (Scalar.indexCast (Scalar.addi (Scalar.muli (Scf.iv 0#32 1#32 k) 4#32) (BitVec.ofNat 32 i.val))).toNat = 4 * k.val + i.val := by
  decide +kernel

/-- The scale word of tile `i` of panel `k`, row `r`. -/
theorem vS_eq (k : Fin k0_t1_loop.trips) (r : Fin 8) (i : Fin 4) : vS (F := Ideal) WS k r i = WS (ix2 r (grp k i)) := by
  unfold vS
  congr 1
  funext d
  apply Fin.ext
  rw [emb_val]
  match d with
  | ⟨0, _⟩ => rfl
  | ⟨1, _⟩ => exact wsOff_eq k i

/-- The activation read by tile `g`. -/
theorem vX_apply (g : Fin 112) (a : Fin 48) (b : Fin 128) (c : Fin 14336) (hc : c.val = 128 * g.val + b.val) :
    vX (F := Ideal) X g (ix2 a b) = X (ix2 a c) := by
  unfold vX
  congr 1
  funext d
  apply Fin.ext
  rw [emb_val]
  match d with
  | ⟨0, _⟩ => show 0 + a.val = a.val; omega
  | ⟨1, _⟩ => exact hc.symm

/-- A column lies in one of the 112 groups. -/
theorem grp_lt (n : Fin 14336) : n.val / 128 < 112 := by omega
/-- An output lies in one of the 32 blocks. -/
theorem blk_lt (o : Fin 4096) : o.val / 128 < 32 := by omega
/-- One product of the sum at row `a`, output `o`: activation, its scale, the weight's scale, the weight. -/
def term (a : Fin 48) (o : Fin 4096) (n : Fin 14336) : EReal :=
  X (ix2 a n) * dec (C (ix2 a ⟨n.val / 128, grp_lt n⟩)) * dec (S (ix2 ⟨o.val / 128, blk_lt o⟩ ⟨n.val / 128, grp_lt n⟩)) * W (ix2 o n)

/-- The scale bytes of output block `4 r + p` lie `8 p` bits up in the words of row `r`. -/
def Words : Prop := ∀ (r : Fin 8) (p : Fin 4) (h : 4 * r.val + p.val < 32) (g : Fin 112),
  byteOf (WS (ix2 r g)) (BitVec.ofNat 32 (8 * p.val)) = (S (ix2 ⟨4 * r.val + p.val, h⟩ g)).setWidth 32

variable (hC : ∀ i, Ok (C i)) (hS : ∀ i, Ok (S i)) (hW : Words WS S)

include hC hS hW in
/-- A band's entry: the activation, times its scale, times the weights' scale. -/
theorem vBand_apply (k : Fin k0_t1_loop.trips) (r : Fin 8) (p : Fin 4) (h : 4 * r.val + p.val < 32) (a : Fin 48) (c : Fin 512) (n : Fin 14336)
    (hn : n.val = 512 * k.val + c.val) :
    vBand (F := Ideal) X C WS k r (BitVec.ofNat 32 (8 * p.val)) (ix2 a c)
      = X (ix2 a n) * dec (C (ix2 a ⟨n.val / 128, grp_lt n⟩)) * dec (S (ix2 ⟨4 * r.val + p.val, h⟩ ⟨n.val / 128, grp_lt n⟩)) := by
  have hc := c.isLt
  have hk : 512 * k.val + c.val < 14336 := hn ▸ n.isLt
  obtain ⟨i, hi⟩ : ∃ i : Fin 4, i.val = c.val / 128 := ⟨⟨c.val / 128, by omega⟩, rfl⟩
  have hg : grp k i = ⟨n.val / 128, grp_lt n⟩ := Fin.ext (by show 4 * k.val + i.val = n.val / 128; omega)
  unfold vBand
  refine (band_apply _ (fun i => vTile (F := Ideal) X C k i) (fun i => vS (F := Ideal) WS k r i) a i
    ⟨c.val % 128, Nat.mod_lt _ (by decide)⟩ c (by show c.val = 128 * i.val + c.val % 128; omega)).trans ?_
  show vTile (F := Ideal) X C k i _ * scaleW (F := Ideal) _ (vS (F := Ideal) WS k r i) _ = _
  rw [vS_eq, scaleW_apply _ _ _ (hS _) (hW r p h (grp k i))]
  unfold vTile
  rw [tileX_apply, scaleX_apply _ _ (hC _), vX_apply X _ a _ n (by rw [hg]; show n.val = 128 * (n.val / 128) + c.val % 128; omega), hg]

/-- The weight read by strip `j` of panel `k`. -/
theorem vW_apply (k : Fin k0_t1_loop.trips) (j : Fin 16) (q : Fin 256) (c : Fin 512) (o : Fin 4096) (n : Fin 14336)
    (ho : o.val = 256 * j.val + q.val) (hn : n.val = 512 * k.val + c.val) : vW (F := Ideal) W k j (ix2 q c) = W (ix2 o n) := by
  unfold vW
  congr 1
  refine congrArg₂ ix2 (Fin.ext ?_) (Fin.ext ?_)
  · exact ho.symm
  · exact hn.symm

/-- Column `c` of panel `k` is a column of the array. -/
theorem panel_lt (k : Fin 28) (c : Fin 512) : 512 * k.val + c.val < 14336 := by omega

include hC hS hW in
/-- One panel's product at row `a`, output `o`. -/
theorem ent_vDot (k : Fin 28) (a : Fin 48) (o : Fin 4096) :
    ent (vDot (F := Ideal) X C W WS (k.cast trips_eq.symm) ⟨o.val / 256, strip_lt o⟩) a o
      = ∑ c : Fin 512, term X C W S a o ⟨512 * k.val + c.val, panel_lt k c⟩ := by
  have ho := o.isLt
  unfold ent vDot
  obtain ⟨h, hh⟩ : ∃ h : Fin 2, h.val = o.val % 256 / 128 := ⟨⟨o.val % 256 / 128, by omega⟩, rfl⟩
  obtain ⟨p, hp⟩ : ∃ p : Fin 4, p.val = o.val / 128 % 4 := ⟨⟨o.val / 128 % 4, by omega⟩, rfl⟩
  have hr : 4 * (o.val / 256 / 2) + p.val = o.val / 128 := by omega
  have key : ∀ (sh : BitVec 32) (e : sh = BitVec.ofNat 32 (8 * p.val)),
      (∑ c : Fin 512, vBand (F := Ideal) X C WS (k.cast trips_eq.symm) ⟨o.val / 256 / 2, row_lt ⟨o.val / 256, strip_lt o⟩⟩ sh (ix2 a c)
        * vW (F := Ideal) W (k.cast trips_eq.symm) ⟨o.val / 256, strip_lt o⟩ (ix2 ⟨o.val % 256, colD_lt o⟩ c))
      = ∑ c : Fin 512, term X C W S a o ⟨512 * k.val + c.val, panel_lt k c⟩ := by
    intro sh e
    subst e
    refine Finset.sum_congr rfl (fun c _ => ?_)
    rw [vBand_apply X C WS S hC hS hW (k.cast trips_eq.symm) _ p (by show 4 * (o.val / 256 / 2) + p.val < 32; omega) a c
        ⟨512 * k.val + c.val, panel_lt k c⟩ rfl,
      vW_apply W (k.cast trips_eq.symm) _ _ c o ⟨512 * k.val + c.val, panel_lt k c⟩ (by show o.val = 256 * (o.val / 256) + o.val % 256; omega) rfl]
    unfold term
    congr 5
    exact Fin.ext hr
  by_cases h1 : o.val % 256 / 128 = 0
  · refine (strip2_apply0 _ _ _ a _ _ (by show 48 * (o.val % 256 / 128) + a.val = a.val; omega)).trans (key _ ?_)
    congr 1
    show 16 * (o.val / 256 % 2) = _
    omega
  · refine (strip2_apply1 _ _ _ a _ _ (by show 48 * (o.val % 256 / 128) + a.val = 48 + a.val; omega)).trans (key _ ?_)
    congr 1
    show 16 * (o.val / 256 % 2) + 8 = _
    omega

include hC hS hW in
/-- The result: the sum over all columns of activation times scale times scale times weight. -/
theorem vOut_apply (a : Fin 48) (o : Fin 4096) : vOut (F := Ideal) X C W WS (ix2 a o) = ∑ n : Fin 14336, term X C W S a o n := by
  unfold vOut k0_pay4
  rw [shapeCast_apply _ _ (ix2 a o) (ix2 a o) rfl, truncf_apply, vAcc_apply]
  simp only [ent_vDot X C W WS S hC hS hW]
  exact sum_blocks (by decide) (term X C W S a o) panel_lt
end

end Cert.KernelIdeal.Hand

end
-- ==== Proof.Ref.lean ====
module

public import proofs.«01_k».proof.Defs
public import proofs.«01_k».proof.Proof.Gen.ReferenceIdeal.Value
public import proofs.«01_k».proof.Proof.Gen.Pre_decodable
public import proofs.«01_k».proof.Proof.Scales
public import Idealize.ShloMosaic.Lib.Pipeline.ValueKit
public import Idealize.ShloMosaic.Lib.MatmulPlain
public import Idealize.ShloMosaic.Lib.ReduceAll

@[expose] public section

noncomputable section

/-! ## What the reference leaves, in exact arithmetic -/

namespace Cert.ReferenceIdeal.Hand

open Cert.Eq Cert.ReferenceIdeal Cert.ReferenceIdeal.Gen
open Idealize.ShloMosaic hiding ix2 ix3 ix4
open Idealize.ShloMosaic.ValueIdx Idealize.ShloMosaic.TcCoe Idealize.SL.Sem

section Value
variable (X : Vec Ideal S48x14336 .fp8e4m3) (C : Vec Ideal S48x112 .i8) (W : Vec Ideal S4096x14336 .fp8e4m3) (S : Vec Ideal S32x112 .i8)

/-- A column lies in one of the 112 groups. -/
theorem grp_lt (n : Fin 14336) : n.val / 128 < 112 := by omega
/-- An output lies in one of the 32 blocks. -/
theorem blk_lt (o : Fin 4096) : o.val / 128 < 32 := by omega
/-- A place within a block is below 128. -/
theorem lane_lt (n : Nat) : n % 128 < 128 := Nat.mod_lt _ (by decide)

/-- The scaled activations, element by element. -/
theorem xs_apply (sc : FVec Ideal S48x112 .bf16) (x : FVec Ideal S48x14336 .bf16) (a : Fin 48) (n : Fin 14336) :
    shapeCast S48x14336 (mulf (shapeCast S48x112x128 x shapeCasts_S48x14336_S48x112x128)
      (broadcastTo S48x112x128 (shapeCast S48x112x1 sc shapeCasts_S48x112_S48x112x1) broadcasts_S48x112x1_S48x112x128))
      shapeCasts_S48x112x128_S48x14336 (ix2 a n)
    = x (ix2 a n) * sc (ix2 a ⟨n.val / 128, grp_lt n⟩) := by
  rw [shapeCast_apply _ _ (ix2 a n) (ix3 a ⟨n.val / 128, grp_lt n⟩ ⟨n.val % 128, lane_lt _⟩), mulf_apply]
  · congr 1
    · refine shapeCast_apply _ _ _ _ ?_
      rw [Shape.rowMajor_val_two, Shape.rowMajor_val_three]
      show a.val * 14336 + n.val = (a.val * 112 + n.val / 128) * 128 + n.val % 128
      omega
    · rw [broadcastTo_apply _ _ _ (ix3 a ⟨n.val / 128, grp_lt n⟩ (0 : Fin 1))]
      · refine shapeCast_apply _ _ _ _ ?_
        rw [Shape.rowMajor_val_two, Shape.rowMajor_val_three]
        show a.val * 112 + n.val / 128 = (a.val * 112 + n.val / 128) * 1 + 0
        omega
      · intro d
        match d with
        | ⟨0, _⟩ => rfl
        | ⟨1, _⟩ => rfl
        | ⟨2, _⟩ => rfl
  · rw [Shape.rowMajor_val_two, Shape.rowMajor_val_three]
    show (a.val * 112 + n.val / 128) * 128 + n.val % 128 = a.val * 14336 + n.val
    omega

/-- The scaled weights, element by element. -/
theorem ws_apply (sc : FVec Ideal S32x112 .bf16) (w : FVec Ideal S4096x14336 .bf16) (o : Fin 4096) (n : Fin 14336) :
    shapeCast S4096x14336 (mulf (shapeCast S32x128x112x128 w shapeCasts_S4096x14336_S32x128x112x128)
      (broadcastTo S32x128x112x128 (shapeCast S32x1x112x1 sc shapeCasts_S32x112_S32x1x112x1) broadcasts_S32x1x112x1_S32x128x112x128))
      shapeCasts_S32x128x112x128_S4096x14336 (ix2 o n)
    = w (ix2 o n) * sc (ix2 ⟨o.val / 128, blk_lt o⟩ ⟨n.val / 128, grp_lt n⟩) := by
  rw [shapeCast_apply _ _ (ix2 o n) (ix4 ⟨o.val / 128, blk_lt o⟩ ⟨o.val % 128, lane_lt _⟩ ⟨n.val / 128, grp_lt n⟩ ⟨n.val % 128, lane_lt _⟩), mulf_apply]
  · congr 1
    · refine shapeCast_apply _ _ _ _ ?_
      rw [Shape.rowMajor_val_two, Shape.rowMajor_val_four]
      show o.val * 14336 + n.val = ((o.val / 128 * 128 + o.val % 128) * 112 + n.val / 128) * 128 + n.val % 128
      omega
    · rw [broadcastTo_apply _ _ _ (ix4 ⟨o.val / 128, blk_lt o⟩ (0 : Fin 1) ⟨n.val / 128, grp_lt n⟩ (0 : Fin 1))]
      · refine shapeCast_apply _ _ _ _ ?_
        rw [Shape.rowMajor_val_two, Shape.rowMajor_val_four]
        show o.val / 128 * 112 + n.val / 128 = ((o.val / 128 * 1 + 0) * 112 + n.val / 128) * 1 + 0
        omega
      · intro d
        match d with
        | ⟨0, _⟩ => rfl
        | ⟨1, _⟩ => rfl
        | ⟨2, _⟩ => rfl
        | ⟨3, _⟩ => rfl
  · rw [Shape.rowMajor_val_two, Shape.rowMajor_val_four]
    show ((o.val / 128 * 128 + o.val % 128) * 112 + n.val / 128) * 128 + n.val % 128 = o.val * 14336 + n.val
    omega

/-- The reference's result: the sum over all columns of the scaled activation times the scaled weight. -/
theorem pay_apply (a : Fin 48) (o : Fin 4096) :
    k0_pay1 (F := Ideal) C S X W (ix2 a o)
      = ∑ n : Fin 14336, (X (ix2 a n) * dec (C (ix2 a ⟨n.val / 128, grp_lt n⟩)))
          * (W (ix2 o n) * dec (S (ix2 ⟨o.val / 128, blk_lt o⟩ ⟨n.val / 128, grp_lt n⟩))) := by
  unfold k0_pay1
  rw [truncf_apply]
  refine (Ideal.matmul_transposedRhs_apply (M := 48) (K := 14336) (N := 4096) (φ₁ := .bf16) (φ₂ := .bf16) none _ _ _ a o).trans ?_
  rw [constant_apply, Ideal.ofBits_zero_f32, zero_add]
  refine Finset.sum_congr rfl fun n _ => ?_
  congr 1
  · refine (xs_apply _ _ a n).trans ?_
    congr 1
    · rw [extf_apply, shapeCast_apply _ _ (ix2 a n) (ix2 a n) rfl]
    · rw [truncf_apply]
      show Ideal.exp2 (((((shapeCast S48x112 C shapeCasts_S48x112_S48x112 (ix2 a ⟨n.val / 128, grp_lt n⟩)).setWidth 32).toInt : ℝ) : EReal) - Ideal.ofBits .f32 0x42FE0000#32) = _
      rw [shapeCast_apply _ _ (ix2 a ⟨n.val / 128, grp_lt n⟩) (ix2 a ⟨n.val / 128, grp_lt n⟩) rfl]
      exact read_exp2 _
  · refine (ws_apply _ _ o n).trans ?_
    congr 1
    exact read_exp2 _
end Value

section Run
variable {F : FTy → Type} [FloatOps F]
variable (m : (ℓ : Loc nD τ sig) → Buf (Elt F) ℓ) (ρ : Dev nD → PrngReg)

/-- Each operand's one block is the whole operand. -/
theorem iblk0 (c : Dev nD) : iblk m c 0 t0_0 = V m c main_v0 := by
  funext y
  show V m c main_v0 ((win0_0.rect t0_0).emb y) = V m c main_v0 y
  refine congrArg _ (funext fun a => Fin.ext (Pipeline.Window.rect_emb_val_of_index_zero win0_0 t0_0 a ?_ y))
  revert a; decide +kernel
/-- The window of the activation scales is the whole array. -/
theorem iblk1 (c : Dev nD) : iblk m c 1 t0_0 = V m c main_v1 := by
  funext y
  show V m c main_v1 ((win0_1.rect t0_0).emb y) = V m c main_v1 y
  refine congrArg _ (funext fun a => Fin.ext (Pipeline.Window.rect_emb_val_of_index_zero win0_1 t0_0 a ?_ y))
  revert a; decide +kernel
/-- The window of the weight codes is the whole array. -/
theorem iblk2 (c : Dev nD) : iblk m c 2 t0_0 = V m c main_arg2 := by
  funext y
  show V m c main_arg2 ((win0_2.rect t0_0).emb y) = V m c main_arg2 y
  refine congrArg _ (funext fun a => Fin.ext (Pipeline.Window.rect_emb_val_of_index_zero win0_2 t0_0 a ?_ y))
  revert a; decide +kernel
/-- The window of the weight scales is the whole array. -/
theorem iblk3 (c : Dev nD) : iblk m c 3 t0_0 = V m c main_arg3 := by
  funext y
  show V m c main_arg3 ((win0_3.rect t0_0).emb y) = V m c main_arg3 y
  refine congrArg _ (funext fun a => Fin.ext (Pipeline.Window.rect_emb_val_of_index_zero win0_3 t0_0 a ?_ y))
  revert a; decide +kernel

/-- The offsets of a whole array of two axes are zero. -/
theorem zeros2 : (![0, 0] : Fin 2 → Nat) = fun _ => 0 := by
  funext a
  match a with
  | ⟨0, _⟩ => rfl
  | ⟨1, _⟩ => rfl

/-- What the body leaves in the result's block. -/
theorem out_eq (x0 : Vec F S48x14336 .fp8e4m3) (x1 : Vec F S48x112 .i8) (x2 : Vec F S4096x14336 .fp8e4m3) (x3 : Vec F S32x112 .i8) :
    out0_4 x0 x1 x2 x3 = k0_pay1 x1 x3 x0 x2 := by
  unfold out0_4
  rw [View.canon_cons_unit_zero (S := S48x4096) zeros2]
  congr 1
  · exact View.ld_unit_zero (S := S48x112) zeros2 _ _
  · exact View.ld_unit_zero (S := S32x112) zeros2 _ _
  · exact View.ld_unit_zero (S := S48x14336) zeros2 _ _
  · exact View.ld_unit_zero (S := S4096x14336) zeros2 _ _

/-- The result array after the run. -/
theorem arr_eq (c : Dev nD) :
    (dats m 0 c).arrAt 4 cfg0.N = k0_pay1 (V m c main_v1) (V m c main_arg3) (V m c main_v0) (V m c main_arg2) := by
  refine (dats m 0 c).arrAt_eq_of_after_last 4 t0_0 (by decide +kernel) _ fun j => ?_
  rw [cast_eq, after0_4, iblk0, iblk1, iblk2, iblk3, out_eq]
  rfl

end Run

end Cert.ReferenceIdeal.Hand

end
-- ==== Proof.Alg.lean ====
module

public import proofs.«01_k».proof.Defs
public import proofs.«01_k».proof.Proof.Total
public import proofs.«01_k».proof.Proof.Ref
public import proofs.«01_k».proof.Proof.RunI
public import Idealize.ShloMosaic.Lib.Claim

@[expose] public section

noncomputable section

/-! ## The kernel and the reference leave the same result, in exact arithmetic -/

namespace Cert.Eq

open Idealize.ShloMosaic hiding ix2 ix3 ix4
open Idealize.ShloMosaic.ValueIdx Idealize.ShloMosaic.TcCoe Idealize.SL.Sem

/-! ### The precondition -/

/-- The precondition's test of one code. -/
theorem ok_of (s : BitVec 8) (h : IntOp.andi (IntOp.cmpi .sge (s.setWidth 32) 1#32) (IntOp.cmpi .sle (s.setWidth 32) 254#32) = 1#1) : Ok s := by
  have key : ∀ s : BitVec 8, IntOp.andi (IntOp.cmpi .sge (s.setWidth 32) 1#32) (IntOp.cmpi .sle (s.setWidth 32) 254#32) = 1#1 →
      1 ≤ s.toNat ∧ s.toNat ≤ 254 := by decide +kernel
  exact key s h

/-- A shape of no axes has one index. -/
instance : Subsingleton (Cert.Pre_decodable.S_ : Shape).Idx := ⟨fun a b => funext fun d => d.elim0⟩

/-- Under the precondition every scale code of the activations and of the weights is one whose value is a power of two. -/
theorem ok_all (x0 : FVec Ideal Cert.Pre_decodable.S48x1x14336 .fp8e4m3) (x1 : IVec Cert.Pre_decodable.S48x1x112 8)
    (x2 : FVec Ideal Cert.Pre_decodable.S4096x14336 .fp8e4m3) (x3 : IVec Cert.Pre_decodable.S32x112 8)
    (h : Cert.Pre_decodable.fn (F := Ideal) x0 x1 x2 x3 = fun _ => 1#1) : (∀ i, Ok (x1 i)) ∧ (∀ i, Ok (x3 i)) := by
  have h0 := congrFun h (fun d => d.elim0)
  unfold Cert.Pre_decodable.fn at h0
  obtain ⟨h1, h2⟩ := IntOp.andi_eq_one.1 h0
  exact ⟨fun i => ok_of _ (Host.reduce_andi_all _ _ _ _ _ h1 i), fun i => ok_of _ (Host.reduce_andi_all _ _ _ _ _ h2 i)⟩

/-! ### What the host hands the kernel -/

/-- The weights' scale words: byte `p` of the word at row `r`, group `g` is the code of output block `4 r + p`. -/
theorem words_of (x : Vec Ideal Cert.KernelIdeal.S32x112 .i8) :
    Cert.KernelIdeal.Hand.Words (Host.bitcastConvertWiden Cert.KernelIdeal.S8x112 32
      (transpose Cert.KernelIdeal.S8x112x4 [0, 2, 1] (shapeCast Cert.KernelIdeal.S8x4x112 x Cert.KernelIdeal.Facts₀.shapeCasts_S32x112_S8x4x112)
        Cert.KernelIdeal.Facts₀.transposes_S8x4x112_S8x112x4_0_2_1) Cert.KernelIdeal.Facts₀.splits_S8x112_w32_S8x112x4_w8) x := by
  intro r p h g
  rw [byte_word _ _ _ p.val p.isLt (ix3 r g p)]
  · congr 1
    rw [transpose_apply _ _ _ _ (ix3 r p g)]
    · refine shapeCast_apply _ _ _ _ ?_
      rw [Shape.rowMajor_val_two, Shape.rowMajor_val_three]
      show (4 * r.val + p.val) * 112 + g.val = (r.val * 4 + p.val) * 112 + g.val
      omega
    · intro d
      match d with
      | ⟨0, _⟩ => rfl
      | ⟨1, _⟩ => rfl
      | ⟨2, _⟩ => rfl
  · intro b
    match b with
    | ⟨0, _⟩ => rfl
    | ⟨1, _⟩ => rfl
    | ⟨2, _⟩ => rfl

/-! ### The two results -/

/-- The kernel's result and the reference's, of the same operands. -/
theorem results_eq (X : Vec Ideal Cert.KernelIdeal.S48x14336 .fp8e4m3) (C : Vec Ideal Cert.KernelIdeal.S48x112 .i8)
    (W : Vec Ideal Cert.KernelIdeal.S4096x14336 .fp8e4m3) (WS : Vec Ideal Cert.KernelIdeal.S8x112 .i32) (S : Vec Ideal Cert.KernelIdeal.S32x112 .i8)
    (hC : ∀ i, Ok (C i)) (hS : ∀ i, Ok (S i)) (hW : Cert.KernelIdeal.Hand.Words WS S) :
    Cert.KernelIdeal.Hand.vOut (F := Ideal) X C W WS = Cert.ReferenceIdeal.Gen.k0_pay1 (F := Ideal) C S X W := by
  funext y
  rw [ValueIdx.eq_ix2 y]
  refine (Cert.KernelIdeal.Hand.vOut_apply X C W WS S hC hS hW _ _).trans ?_
  refine Eq.trans ?_ (Cert.ReferenceIdeal.Hand.pay_apply X C W S _ _).symm
  refine Finset.sum_congr rfl fun n _ => ?_
  unfold Cert.KernelIdeal.Hand.term
  rw [mul_assoc, mul_comm (dec _) (W _)]

/-- The claim: from equal arguments, scale codes decodable, the kernel and the reference both end with the same result, their arguments unchanged. -/
theorem algebraic : Cert.algebraic_KernelIdeal_ReferenceIdeal_pre_decodable := by
  intro m g m' g' hpre hag
  refine ⟨fun c => Cert.KernelIdeal.Hand.outV m c, (θ_run _ _ _).mono (fun r h c => ⟨(h.1 c).2, (h.1 c).1⟩) (Cert.KernelIdeal.Hand.run m g),
    (θ_run _ _ _).mono (fun r h c => ⟨(h c).1.trans ?_, (h c).2⟩) (Cert.ReferenceIdeal.Value.run_blocks m' g')⟩
  rw [Cert.ReferenceIdeal.Hand.arr_eq]
  obtain ⟨hC, hS⟩ := ok_all _ _ _ _ (hpre c)
  obtain ⟨e0, e1, e2, e3⟩ := hag c
  unfold Cert.KernelIdeal.Hand.outV
  symm
  have r0 : Cert.ReferenceIdeal.Gen.V m' c Cert.ReferenceIdeal.main_v0 = Cert.KernelIdeal.Gen.V m c Cert.KernelIdeal.main_v0 := by
    entry_read
    rw [e0]
    rfl
  have r1 : Cert.ReferenceIdeal.Gen.V m' c Cert.ReferenceIdeal.main_v1 = Cert.KernelIdeal.Gen.V m c Cert.KernelIdeal.main_v1 := by
    entry_read
    rw [e1]
    rfl
  have r2 : Cert.ReferenceIdeal.Gen.V m' c Cert.ReferenceIdeal.main_arg2 = Cert.KernelIdeal.Gen.V m c Cert.KernelIdeal.main_arg2 :=
    (Cert.ReferenceIdeal.Gen.V_main_arg2 m' c).trans (e2.trans (Cert.KernelIdeal.Gen.V_main_arg2 m c).symm)
  have r3 : Cert.ReferenceIdeal.Gen.V m' c Cert.ReferenceIdeal.main_arg3 = m ((c : Thread Cert.KernelIdeal.nD Cert.KernelIdeal.τ).loc Cert.KernelIdeal.main_arg3) :=
    (Cert.ReferenceIdeal.Gen.V_main_arg3 m' c).trans e3
  rw [r0, r1, r2, r3]
  refine results_eq _ _ _ _ _ ?_ hS ?_
  · entry_read
    exact fun i => hC _
  · entry_read
    exact words_of _

end Cert.Eq

end
-- ==== Proof.lean ====
module

public import proofs.«01_k».proof.Defs
public import proofs.«01_k».proof.Proof.Run
public import proofs.«01_k».proof.Proof.RunI
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_decodable
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The whole claim. The kernel's frame, at the machine's arithmetic and at the reals', is its run with the result
    forgotten; the reference's frame is the generated one; the equation of the two over the reals is `Cert.Eq.algebraic`. -/
theorem claim : Cert.Claim := ⟨Cert.Kernel.Gen.facts, Cert.KernelIdeal.Gen.facts, Cert.ReferenceIdeal.Gen.facts, Cert.Pre_decodable.Gen.facts,
  fun m g _ => (θ_run Cert.Kernel.defs _ _).mono (fun _ h => ⟨fun c => (h.1 c).1, h.2⟩) (Cert.Kernel.Hand.run m g),
  fun m g _ => (θ_run Cert.KernelIdeal.defs _ _).mono (fun _ h => ⟨fun c => (h.1 c).1, h.2⟩) (Cert.KernelIdeal.Hand.run m g),
  fun m g _ => (θ_run Cert.KernelIdeal.defs _ _).mono (fun _ h => ⟨fun c => (h.1 c).1, h.2⟩) (Cert.KernelIdeal.Hand.run m g),
  fun m g _ => Cert.ReferenceIdeal.Gen.frame m g,
  fun m g _ => Cert.ReferenceIdeal.Gen.frame m g,
  trivial,
  Cert.Eq.algebraic⟩

end Cert.Proof

end
